-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S8x512x512 : Shape := ⟨3, ![8, 512, 512]⟩
abbrev S512x4096 : Shape := ⟨2, ![512, 4096]⟩
abbrev S3x512x2048 : Shape := ⟨3, ![3, 512, 2048]⟩
abbrev S4096x2048 : Shape := ⟨2, ![4096, 2048]⟩
abbrev S2x512x2048 : Shape := ⟨3, ![2, 512, 2048]⟩
abbrev S8 : Shape := ⟨1, ![8]⟩
abbrev S4 : Shape := ⟨1, ![4]⟩
abbrev S2 : Shape := ⟨1, ![2]⟩
abbrev S_ : Shape := ⟨0, ![]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .f32⟩
  | .local _ .vmem, ⟨1, _⟩ => ⟨S8x512x512, .fp8e5m2⟩
  | .local _ .vmem, ⟨2, _⟩ => ⟨S8x512x512, .fp8e5m2⟩
  | .local _ .vmem, ⟨3, _⟩ => ⟨S512x4096, .fp8e5m2⟩
  | .local _ .vmem, ⟨4, _⟩ => ⟨S3x512x2048, .f32⟩
  | .local _ .vmem, ⟨5, _⟩ => ⟨S4096x2048, .fp8e5m2⟩
  | .local _ .vmem, ⟨6, _⟩ => ⟨S2x512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_dev9 : Nat :=
  let c0_i32_71 : BitVec 32 := 0#32
  let c0_i32_69 : BitVec 32 := 0#32
  let c1_i32_70 : BitVec 32 := 1#32
  let v83 : BitVec 32 := Scalar.muli c0_i32_69 c1_i32_70
  let v84 : BitVec 32 := Scalar.addi c0_i32_71 v83
  v84.toNat
def k0_dev10 : Nat :=
  let c0_i32_80 : BitVec 32 := 0#32
  let c1_i32_78 : BitVec 32 := 1#32
  let c1_i32_79 : BitVec 32 := 1#32
  let v93 : BitVec 32 := Scalar.muli c1_i32_78 c1_i32_79
  let v94 : BitVec 32 := Scalar.addi c0_i32_80 v93
  v94.toNat
def k0_dev11 : Nat :=
  let c0_i32_89 : BitVec 32 := 0#32
  let c2_i32_87 : BitVec 32 := 2#32
  let c1_i32_88 : BitVec 32 := 1#32
  let v103 : BitVec 32 := Scalar.muli c2_i32_87 c1_i32_88
  let v104 : BitVec 32 := Scalar.addi c0_i32_89 v103
  v104.toNat
def k0_dev12 : Nat :=
  let c0_i32_98 : BitVec 32 := 0#32
  let c3_i32_96 : BitVec 32 := 3#32
  let c1_i32_97 : BitVec 32 := 1#32
  let v113 : BitVec 32 := Scalar.muli c3_i32_96 c1_i32_97
  let v114 : BitVec 32 := Scalar.addi c0_i32_98 v113
  v114.toNat
def k0_dev13 : Nat :=
  let c0_i32_107 : BitVec 32 := 0#32
  let c4_i32_105 : BitVec 32 := 4#32
  let c1_i32_106 : BitVec 32 := 1#32
  let v123 : BitVec 32 := Scalar.muli c4_i32_105 c1_i32_106
  let v124 : BitVec 32 := Scalar.addi c0_i32_107 v123
  v124.toNat
def k0_dev14 : Nat :=
  let c0_i32_116 : BitVec 32 := 0#32
  let c5_i32_114 : BitVec 32 := 5#32
  let c1_i32_115 : BitVec 32 := 1#32
  let v133 : BitVec 32 := Scalar.muli c5_i32_114 c1_i32_115
  let v134 : BitVec 32 := Scalar.addi c0_i32_116 v133
  v134.toNat
def k0_dev15 : Nat :=
  let c0_i32_125 : BitVec 32 := 0#32
  let c6_i32_123 : BitVec 32 := 6#32
  let c1_i32_124 : BitVec 32 := 1#32
  let v143 : BitVec 32 := Scalar.muli c6_i32_123 c1_i32_124
  let v144 : BitVec 32 := Scalar.addi c0_i32_125 v143
  v144.toNat
def k0_dev16 : Nat :=
  let c0_i32_134 : BitVec 32 := 0#32
  let c7_i32_132 : BitVec 32 := 7#32
  let c1_i32_133 : BitVec 32 := 1#32
  let v153 : BitVec 32 := Scalar.muli c7_i32_132 c1_i32_133
  let v154 : BitVec 32 := Scalar.addi c0_i32_134 v153
  v154.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Protocol.lean ====
/-
# The exchange: cells, slots, contents and schedule

Eight devices. Device `c` holds in its `stage` buffer eight blocks of 512 rows of its `x` shard, cast; it sends block `d` to
device `d`, into slot `c` of that device's `comm` buffer. Before any send a device signals every device's barrier cell (its own
too) and waits for eight units on its own.

Three kinds of cells, one round each:
* the barrier cell of device `c`: eight duties of one unit, duty `p` paid by device `p`, which hands over slot `c` of its `comm`
  buffer and the mark that its receive cell number `c` is at round 0;
* the send cell `d` of device `c`: one duty, paid by `c`'s send to device `d`; it gives the stage slot `d` back;
* the receive cell `s` of device `c`: one duty, paid by device `s`'s send to `c`; it gives the `comm` slot `s` of `c`, holding
  device `s`'s block number `c`.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Transfers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging library's copy, the exchange's, the local transfers' counters -/

/-- The exchange's ghost state: one round schedule over the cells, duties named by devices. -/
abbrev UB : Type := URounds (GSem nD τ sig) (Fin 8)
/-- The user algebra: the staging's rounds, the exchange's, and the counters of the local transfers. -/
abbrev UU : Type := UR sig nD τ × (UB × Counters)

local notation "𝕄" => MT nD τ sig Unit (Elt F) ℕ UU ℕ

/-- Where the staging's rounds live. -/
abbrev EP : Emb (UR sig nD τ) (MT nD τ sig Unit (Elt F) ℕ UU ℕ) := embL
/-- Where the exchange's rounds live. -/
abbrev ER : Emb UB (MT nD τ sig Unit (Elt F) ℕ UU ℕ) := (Emb.inl : Emb UB (UB × Counters)).trans embR

variable (m : (ℓ : Loc nD τ sig) → Buf (Elt F) ℓ)

/-! ## The slots -/

/-- A slot of an eight-slot buffer lies in it. -/
theorem slot_inb (s : Fin 8) (a : Fin 3) : (![s.val, 0, 0] : Fin 3 → Nat) a + S1x512x512.size a ≤ S8x512x512.size a := by
  revert s a; decide

/-- Slot `s` of the landing buffer. -/
def commSlot (s : Fin 8) : Memref sig .tc .vmem S512x512 .fp8e5m2 :=
  ((Memref.whole cc0_scratch0).slice (Rect.unit (s := S8x512x512) ![s.val, 0, 0] S1x512x512.size (slot_inb s)) (fun _ => rfl)).squeeze
    S512x512 squeezes_S1x512x512_S512x512

/-- Slot `d` of the staging buffer. -/
def stageSlot (d : Fin 8) : Memref sig .tc .vmem S512x512 .fp8e5m2 :=
  ((Memref.whole cc0_scratch1).slice (Rect.unit (s := S8x512x512) ![d.val, 0, 0] S1x512x512.size (slot_inb d)) (fun _ => rfl)).squeeze
    S512x512 squeezes_S1x512x512_S512x512

/-! ## The cells -/

/-- The runtime's barrier semaphore. -/
abbrev barS : Sem sig := (SemArray.scalar (sig.barrier 0 rfl) : Sems sig S_).sem
/-- The semaphore a send to device `d` credits on the sender. -/
def sendQ (d : Fin 8) : DmaSem sig := ⟨3 + d.val, by have := d.isLt; show 3 + d.val < 25; omega⟩
/-- The semaphore a send from device `s` credits on the receiver. -/
def recvQ (s : Fin 8) : DmaSem sig := ⟨11 + s.val, by have := s.isLt; show 11 + s.val < 25; omega⟩

/-- Device `c`'s barrier cell. -/
abbrev barCell (c : Dev nD) : GSem nD τ sig := ((c : Thread nD τ), .reg barS)
/-- Device `c`'s send cell `d`. -/
abbrev sendCell (c : Dev nD) (d : Fin 8) : GSem nD τ sig := ((c : Thread nD τ), .dma (sendQ d))
/-- Device `c`'s receive cell `s`. -/
abbrev recvCell (c : Dev nD) (s : Fin 8) : GSem nD τ sig := ((c : Thread nD τ), .dma (recvQ s))

/-- The units a block's transfer credits. -/
abbrev N : ℕ := (commSlot 0).view.dmaCredit
/-- They are some. -/
theorem N_pos : 0 < N := View.dmaCredit_pos _ (by decide)

/-! ## Contents -/

/-- The cast of one element to the eight-bit format. -/
def q8 (x : Elt F .f32) : Elt F .fp8e5m2 := FloatOps.truncf (F := F) .fp8e5m2 bitsLt_fp8e5m2_f32 x

/-- Device `c`'s shard of `x` as its staging window holds it. -/
def xstg (c : Dev nD) : (cc0_stg0_0 : Ref sig .tc).ty.Contents (Elt F) :=
  (win0_0.blk (0 : Fin 1)).view.read (Elt F) (m ((c : Thread nD τ).loc main_arg0))

/-- Row `512 d + i`, column `k` of a shard. -/
def rowOf (d : Fin 8) (i k : Fin 512) : S4096x512.Idx :=
  fun | 0 => ⟨512 * d.val + i.val, by have := d.isLt; have := i.isLt; show _ < 4096; omega⟩ | 1 => ⟨k.val, k.isLt⟩

/-- What the `stage` buffer of device `c` holds once every block is stored: block `d` of `x`'s rows, cast, at slot `d`. -/
def stageC (c : Dev nD) : (cc0_scratch1 : Ref sig .tc).ty.Contents (Elt F) :=
  fun i => q8 (xstg m c (rowOf ⟨(i 0).val, (i 0).isLt⟩ ⟨(i 1).val, (i 1).isLt⟩ ⟨(i 2).val, (i 2).isLt⟩))

/-- Device `c`'s landing slot `s` at contents `f`. -/
def commPts (c : Dev nD) (s : Fin 8) (f : Buf (Elt F) ((commSlot s).view.loc (c : Thread nD τ))) : sProp 𝕄 :=
  (commSlot s).view.loc (c : Thread nD τ) ↦[(commSlot s).view.set]{fullShare} f
/-- Device `c`'s stage slot `d` at contents `f`. -/
def stagePts (c : Dev nD) (d : Fin 8) (f : Buf (Elt F) ((stageSlot d).view.loc (c : Thread nD τ))) : sProp 𝕄 :=
  (stageSlot d).view.loc (c : Thread nD τ) ↦[(stageSlot d).view.set]{fullShare} f

omit [FloatOps F] in
instance commPts_storable (c : Dev nD) (s) (f) : BI.Storable (upEmb : UEmb _ 𝕄) (commPts (F := F) c s f) := by
  unfold commPts; infer_instance
omit [FloatOps F] in
instance stagePts_storable (c : Dev nD) (d) (f) : BI.Storable (upEmb : UEmb _ 𝕄) (stagePts (F := F) c d f) := by
  unfold stagePts; infer_instance

/-! ## The schedule -/

/-- What device `p` hands device `c` at the barrier: slot `c` of its landing buffer, and its receive cell `c` at round 0. -/
def barPay (c p : Dev nD) : sProp 𝕄 := iprop((∃ f, commPts p c f) ∗ reached ER (recvCell p c) 0)
/-- What device `c` gets at its receive cell `s`: its landing slot `s` holding device `s`'s block `c`. -/
def recvPay (c s : Dev nD) : sProp 𝕄 :=
  iprop(∃ fd, commPts c s ((commSlot s).view.write (Elt F) fd ((stageSlot c).view.read (Elt F) (stageC m s)) Finset.univ))
/-- What device `c` gets back at its send cell `d`: its stage slot `d`. -/
def sendPay (c d : Dev nD) : sProp 𝕄 := stagePts c d (stageC m c)

/-- The kind of a semaphore: the barrier, a send semaphore, a receive semaphore, or none of the exchange's. -/
inductive Kind where
  | bar | send (d : Fin 8) | recv (s : Fin 8) | other

/-- Which kind a semaphore is. -/
def kindOf : SemLoc sig → Kind
  | .reg s => if s = barS then .bar else .other
  | .dma q => if h : 3 ≤ q.val ∧ q.val < 11 then .send ⟨q.val - 3, by omega⟩
      else if h : 11 ≤ q.val ∧ q.val < 19 then .recv ⟨q.val - 11, by omega⟩ else .other

theorem kind_bar : kindOf (.reg barS) = .bar := by unfold kindOf; exact if_pos rfl
theorem kind_send (d : Fin 8) : kindOf (.dma (sendQ d)) = .send d := by fin_cases d <;> rfl
theorem kind_recv (s : Fin 8) : kindOf (.dma (recvQ s)) = .recv s := by fin_cases s <;> rfl

/-- The duties of a kind. -/
def Kind.duties : Kind → Finset (Fin 8)
  | .bar => Finset.univ | .send _ => {0} | .recv _ => {0} | .other => ∅
/-- The units a duty of a kind is worth. -/
def Kind.amount : Kind → ℕ
  | .bar => 1 | _ => N
/-- What a duty of a kind hands device `c`. -/
def Kind.payload (c : Dev nD) (d : Fin 8) : Kind → sProp 𝕄
  | .bar => barPay c d | .send e => sendPay m c e | .recv s => recvPay m c s | .other => iprop(emp)

/-- The exchange's schedule: every cell one round. -/
def sched : Rounds.Schedule (GSem nD τ sig) (Fin 8) 𝕄 where
  duties g r := if r = 0 ∧ g.1.2 = .tc then (kindOf g.2).duties else ∅
  unitless _ := False
  amount g _ _ := (kindOf g.2).amount
  payload g _ d := (kindOf g.2).payload m g.1.1 d
  amount_pos g _ _ _ := by
    rcases kindOf g.2 with _ | _ | _ | _
    · exact Nat.one_pos
    all_goals exact N_pos

instance sched_storable (g : GSem nD τ sig) (r : ℕ) (d : Fin 8) :
    BI.Storable (upEmb : UEmb _ 𝕄) ((sched (F := F) m).payload g r d) := by
  show BI.Storable upEmb ((kindOf g.2).payload m g.1.1 d)
  rcases kindOf g.2 with _ | _ | _ | _ <;> unfold Kind.payload <;> dsimp only
  · unfold barPay; infer_instance
  · exact stagePts_storable _ _ _
  · unfold recvPay; infer_instance
  · infer_instance

section Tables
variable (c : Dev nD)

theorem duties_bar : (sched (F := F) m).duties (barCell c) 0 = Finset.univ := rfl
theorem duties_send (d : Fin 8) : (sched (F := F) m).duties (sendCell c d) 0 = {0} := by
  dsimp only [sched]; rw [if_pos ⟨rfl, rfl⟩, kind_send]; rfl
theorem duties_recv (s : Fin 8) : (sched (F := F) m).duties (recvCell c s) 0 = {0} := by
  dsimp only [sched]; rw [if_pos ⟨rfl, rfl⟩, kind_recv]; rfl
theorem duties_later (g : GSem nD τ sig) : ∀ r, 1 ≤ r → (sched (F := F) m).duties g r = ∅ :=
  fun r hr => by dsimp only [sched]; rw [if_neg fun h => by omega]

theorem amount_bar (d : Fin 8) : (sched (F := F) m).amount (barCell c) 0 d = 1 := rfl
theorem amount_send (d e : Fin 8) : (sched (F := F) m).amount (sendCell c d) 0 e = N := by dsimp only [sched]; rw [kind_send]; rfl
theorem amount_recv (s e : Fin 8) : (sched (F := F) m).amount (recvCell c s) 0 e = N := by dsimp only [sched]; rw [kind_recv]; rfl

theorem expect_bar : (sched (F := F) m).expect (barCell c) 0 = 8 := by
  unfold Schedule.expect Schedule.amountOf
  rw [duties_bar, Finset.sum_congr rfl fun d _ => amount_bar m c d, Finset.sum_const, Finset.card_univ, Fintype.card_fin, smul_eq_mul]
theorem expect_send (d : Fin 8) : (sched (F := F) m).expect (sendCell c d) 0 = N := by
  unfold Schedule.expect Schedule.amountOf; rw [duties_send, Finset.sum_singleton, amount_send]
theorem expect_recv (s : Fin 8) : (sched (F := F) m).expect (recvCell c s) 0 = N := by
  unfold Schedule.expect Schedule.amountOf; rw [duties_recv, Finset.sum_singleton, amount_recv]

theorem payload_bar (d : Fin 8) : (sched (F := F) m).payload (barCell c) 0 d = barPay c d := rfl
theorem payload_send (d e : Fin 8) : (sched (F := F) m).payload (sendCell c d) 0 e = sendPay m c d := by
  dsimp only [sched]; rw [kind_send]; rfl
theorem payload_recv (s e : Fin 8) : (sched (F := F) m).payload (recvCell c s) 0 e = recvPay m c s := by
  dsimp only [sched]; rw [kind_recv]; rfl

end Tables

end Cert.Exchange

end
-- ==== Proof.Owes.lean ====
/-
# What a device owes, and the order of its waits

At launch device `c` owes every device one unit of its barrier cell and one block's credit of its receive cell number `c`. It
waits on its barrier cell owing only receive credits, which stand above the barrier cells; every later wait is made owing nothing.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The receive credits device `c` owes. -/
def owedRecv (c : Dev nD) : CellTallies nD τ sig Unit := ∑ d : Fin 8, tallyAt (recvCell d c) () N
/-- The barrier units device `c` owes. -/
def owedBar : CellTallies nD τ sig Unit := ∑ d : Fin 8, tallyAt (barCell d) () 1
/-- What device `c` owes at launch. -/
def O₀ (c : Dev nD) : CellTallies nD τ sig Unit := owedRecv c + owedBar

/-- The cells a thread may owe or wait on: a core's. -/
def L (g : GSem nD τ sig) : Finset Unit := if g.1.2 = .tc then {()} else ∅
/-- The level of a kind: barrier cells at 1, receive cells at 2, everything else at 0. -/
def Kind.level : Kind → ℕ
  | .bar => 1 | .recv _ => 2 | _ => 0
/-- The level of a cell. -/
def lv (g : GSem nD τ sig) (_ : Unit) : ℕ := (kindOf g.2).level

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]; rfl
theorem lv_recv (c : Dev nD) (s : Fin 8) : lv (recvCell c s) () = 2 := by unfold lv; rw [kind_recv]; rfl

/-- A sum of tallies is positive only at one of its cells. -/
theorem sum_tally_pos {f : Fin 8 → GSem nD τ sig} {n : ℕ} {g : GSem nD τ sig} {u : Unit}
    (h : 0 < (∑ d : Fin 8, tallyAt (f d) () n : CellTallies nD τ sig Unit) g u) : ∃ d, g = f d := by
  by_contra hn
  rw [not_exists] at hn
  rw [Finset.sum_apply, Finsupp.finsetSum_apply, Finset.sum_eq_zero fun d _ => by
    rw [tallyAt_apply, if_neg fun h' => hn d h'.1]] at h
  exact Nat.lt_irrefl 0 h

theorem owedRecv_pos {c : Dev nD} {g : GSem nD τ sig} {u : Unit} (h : 0 < owedRecv c g u) : ∃ d : Fin 8, g = recvCell d c :=
  sum_tally_pos h

theorem O₀_pos {c : Dev nD} {g : GSem nD τ sig} {u : Unit} (h : 0 < O₀ c g u) :
    (∃ d : Fin 8, g = recvCell d c) ∨ ∃ d : Fin 8, g = barCell d := by
  unfold O₀ at h
  rw [Pi.add_apply, Finsupp.add_apply] at h
  rcases Nat.add_pos_iff_pos_or_pos.mp h with h | h
  · exact .inl (sum_tally_pos h)
  · exact .inr (sum_tally_pos h)

omit [FloatOps F] in
/-- A staging semaphore may be waited on owing everything, or nothing. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact hq.le)
      (fun g u hg => by
        rcases O₀_pos hg with ⟨d, rfl⟩ | ⟨d, rfl⟩
        · rw [lv_recv]; decide
        · rw [lv_bar]; decide)
  · rw [MayWait_zero]; iintro -; iempintro

omit [FloatOps F] in
/-- The barrier cell may be waited on owing the receive credits. -/
theorem mayWait_bar (c : Dev nD) : (levAts L lv : sProp 𝕄) ⊢ MayWait (c : Thread nD τ) (.reg barS) () (owedRecv c) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact (lv_bar c).le)
    (fun g u hg => by obtain ⟨d, rfl⟩ := owedRecv_pos hg; rw [lv_recv]; decide)

end Cert.Exchange

end
-- ==== Proof.Contents.lean ====
/-
# What the buffers hold

Device `c` gathers in `a` the blocks number `c` of every device, side by side; it casts the weights panel by panel (a panel is
2048 columns) into `w8`; a panel of the result is the product of the two, times the product of the two scales.
Here: those contents as functions, and what the loads and stores of the run read and leave, once for every slot and panel.
-/
module

public import proofs.«01_k».proof.Proof.Owes
public import Idealize.ShloMosaic.Lib.Pipeline.Value
public import Idealize.ShloMosaic.Lib.Writes
public import Idealize.ShloMosaic.Lib.VecWindow

@[expose] public section

noncomputable section

namespace Cert.Exchange

open Cert.KernelIdeal Cert.KernelIdeal.Gen

open Idealize.ShloMosaic
open Idealize.ShloMosaic.TcCoe

variable {F : FTy → Type} [FloatOps F]
variable (m : (ℓ : Loc nD τ sig) → Buf (Elt F) ℓ)

/-! ## The contents as functions -/

/-- A place in a matrix by its row and column. -/
def at2 {a b : ℕ} (i : Fin a) (j : Fin b) : (⟨2, ![a, b]⟩ : Shape).Idx := fun | 0 => i | 1 => j
/-- A place in a stack of matrices. -/
def at3 {n a b : ℕ} (s : Fin n) (i : Fin a) (j : Fin b) : (⟨3, ![n, a, b]⟩ : Shape).Idx := fun | 0 => s | 1 => i | 2 => j

/-- Device `c`'s weights. -/
abbrev wOf (c : Dev nD) : (main_arg1 : Ref sig .tc).ty.Contents (Elt F) := m ((c : Thread nD τ).loc main_arg1)

/-- Block `s` of 512 rows of panel `p` of the weights. -/
def wBlock (c : Dev nD) (p : Fin 4) (s : Fin 8) : S512x2048.Idx → Elt F .f32 := fun i =>
  wOf m c (at2 (a := 4096) (b := 8192) ⟨512 * s.val + (i 0).val, by have := s.isLt; have : (i 0).val < 512 := (i 0).isLt; omega⟩
    ⟨2048 * p.val + (i 1).val, by have := p.isLt; have : (i 1).val < 2048 := (i 1).isLt; omega⟩)

/-- Panel `p` of the weights, cast. -/
def w8C (c : Dev nD) (p : Fin 4) : S4096x2048.Idx → Elt F .fp8e5m2 := fun i =>
  q8 (wOf m c (at2 (a := 4096) (b := 8192) ⟨(i 0).val, (i 0).isLt⟩
    ⟨2048 * p.val + (i 1).val, by have := p.isLt; have : (i 1).val < 2048 := (i 1).isLt; omega⟩))

/-- The rows device `c` multiplies: block number `c` of every device, side by side. -/
def aC (c : Dev nD) : S512x4096.Idx → Elt F .fp8e5m2 := fun i =>
  stageC m ⟨(i 1).val / 512, by have : (i 1).val < 4096 := (i 1).isLt; show _ < 8; omega⟩
    (at3 (n := 8) (a := 512) (b := 512) c ⟨(i 0).val, (i 0).isLt⟩ ⟨(i 1).val % 512, Nat.mod_lt _ (by decide)⟩)

/-- Panel `p` of device `c`'s result, given the product of the scales. -/
def outP (k : F .f32) (c : Dev nD) (p : Fin 4) : S512x2048.Idx → Elt F .f32 := k0_pay50 k (aC m c) (w8C m c p)

/-- Device `c`'s result. -/
def outC (k : F .f32) (c : Dev nD) : S512x8192.Idx → Elt F .f32 := fun i =>
  outP m k c ⟨(i 1).val / 2048, by have : (i 1).val < 8192 := (i 1).isLt; omega⟩
    (at2 (a := 512) (b := 2048) ⟨(i 0).val, (i 0).isLt⟩ ⟨(i 1).val % 2048, Nat.mod_lt _ (by decide)⟩)

/-! ## Loads of the cast weights -/

/-- A view written whole last reads what was written. -/
theorem read_writes_whole {κ : Idealize.ShloMosaic.Kind} {sp : Space} {s : Shape} {e : EltTy} (v : View sig κ sp s e) (f : v.ty.Contents (Elt F))
    (X : s.Idx → Elt F e) (L) : v.read (Elt F) (v.writes (Elt F) f (⟨Rect.whole s, X⟩ :: L)) = X := by
  funext y
  have := View.read_writes_cons_emb v f (Rect.whole s) X L y
  rwa [show (Rect.whole s).emb y = y from funext fun a => Fin.ext (by show 0 + 1 * (y a).val = _; omega)] at this

/-- A view of a stack's slot, as a matrix, written whole last: the slot loaded reads what was written. -/
theorem slotLoad {κ : Idealize.ShloMosaic.Kind} {sp : Space} {s s' : Shape} {e : EltTy} (M : Memref sig κ sp s e) (r : Rect s) (hr) (hq : r.shape.Squeezes s')
    (hc : r.shape.ShapeCasts s') (f) (X : s'.Idx → Elt F e) (L) :
    shapeCast s' (M.view.readAt (Elt F) r.toLoadRect (((M.slice r hr).squeeze s' hq).view.writes (Elt F) f (⟨Rect.whole s', X⟩ :: L))) hc = X :=
  (Memref.read_squeeze_slice M r hr hq hc _).symm.trans (read_writes_whole _ f X L)

/-- A block of a panel read out of the weights. -/
theorem wRead (c : Dev nD) (p : Fin 4) (s : Fin 8) (inb : ∀ a : Fin 2, ![512 * s.val, 2048 * p.val] a + S512x2048.size a ≤ S4096x8192.size a) :
    View.read (Elt F) ((Memref.whole main_arg1 : Memref sig .tc .hbm S4096x8192 .f32).slice
      (Rect.unit (s := S4096x8192) ![512 * s.val, 2048 * p.val] S512x2048.size inb) (fun _ => rfl)).view (wOf m c) = wBlock m c p s := by
  funext i
  show wOf m c _ = wOf m c _
  congr 1
  funext a
  fin_cases a
  · exact Fin.ext (by show 512 * s.val + 1 * (i 0).val = 512 * s.val + (i 0).val; omega)
  · exact Fin.ext (by show 2048 * p.val + 1 * (i 1).val = 2048 * p.val + (i 1).val; omega)

/-- Pieces that agree with `G` and cover the view, stored last: a load of the whole view reads `G`. -/
theorem coveredLoad {κ : Idealize.ShloMosaic.Kind} {sp : Space} {s : Shape} {e : EltTy} (v : View sig κ sp s e) (G : s.Idx → Elt F e)
    (A L : List (View.Piece (Elt F) s e)) (hG : ∀ p ∈ A, ∀ x : p.1.shape.Idx, p.2 x = G (p.1.emb x)) (hA : ∀ y, ∃ p ∈ A, y ∈ p.1.set)
    {off : Fin s.rank → ℕ} (inb : ∀ a, off a + s.size a ≤ s.size a) :
    v.readCov (Val := Elt F) (A ++ L) (Rect.unit off s.size inb).toLoadRect = G := by
  refine (View.readAt_full v _ inb).trans ?_
  funext y
  rw [View.writes_append]
  exact View.read_writes_apply_of_pieces v _ G A hG y (hA y)

/-- Eight pieces of 512 rows, each a cast block of the panel, read back as the cast panel, whatever was stored before them. -/
theorem w8Load (c : Dev nD) (p : Fin 4) {P0 P1 P2 P3 P4 P5 P6 P7 : S512x2048.Idx → Elt F .fp8e5m2}
    (e0 : P0 = fun i => q8 (wBlock m c p 0 i)) (e1 : P1 = fun i => q8 (wBlock m c p 1 i)) (e2 : P2 = fun i => q8 (wBlock m c p 2 i))
    (e3 : P3 = fun i => q8 (wBlock m c p 3 i)) (e4 : P4 = fun i => q8 (wBlock m c p 4 i)) (e5 : P5 = fun i => q8 (wBlock m c p 5 i))
    (e6 : P6 = fun i => q8 (wBlock m c p 6 i)) (e7 : P7 = fun i => q8 (wBlock m c p 7 i))
    (L : List (View.Piece (Elt F) S4096x2048 .fp8e5m2)) (h0 h1 h2 h3 h4 h5 h6 h7 h) :
    (Memref.whole cc0_scratch4).view.readCov (Val := Elt F)
      (⟨Rect.unit (s := S4096x2048) ![3584, 0] S512x2048.size h7, P7⟩ :: ⟨Rect.unit (s := S4096x2048) ![3072, 0] S512x2048.size h6, P6⟩
        :: ⟨Rect.unit (s := S4096x2048) ![2560, 0] S512x2048.size h5, P5⟩ :: ⟨Rect.unit (s := S4096x2048) ![2048, 0] S512x2048.size h4, P4⟩
        :: ⟨Rect.unit (s := S4096x2048) ![1536, 0] S512x2048.size h3, P3⟩ :: ⟨Rect.unit (s := S4096x2048) ![1024, 0] S512x2048.size h2, P2⟩
        :: ⟨Rect.unit (s := S4096x2048) ![512, 0] S512x2048.size h1, P1⟩ :: ⟨Rect.unit (s := S4096x2048) ![0, 0] S512x2048.size h0, P0⟩ :: L)
      (Rect.unit (s := S4096x2048) ![0, 0] S4096x2048.size h).toLoadRect = w8C m c p := by
  subst e0 e1 e2 e3 e4 e5 e6 e7
  have hrow : ∀ (s : Fin 8) (off : Fin 2 → ℕ) (_ : off = ![512 * s.val, 0]) (hb : ∀ a, off a + S512x2048.size a ≤ S4096x2048.size a) (x : S512x2048.Idx),
      q8 (wBlock m c p s x) = w8C m c p ((Rect.unit (s := S4096x2048) off S512x2048.size hb).emb x) := by
    rintro s off rfl hb x
    unfold w8C wBlock
    congr 2
    funext a
    fin_cases a
    · exact Fin.ext (by show 512 * s.val + (x 0).val = 512 * s.val + 1 * (x 0).val; omega)
    · exact Fin.ext (by show 2048 * p.val + (x 1).val = 2048 * p.val + (0 + 1 * (x 1).val); omega)
  refine coveredLoad (Memref.whole cc0_scratch4).view (w8C m c p) [_, _, _, _, _, _, _, _] L ?_ (View.cover_of_tiled _ S512x2048.size rfl) h
  intro q hq x
  simp only [List.mem_cons, List.not_mem_nil, or_false] at hq
  rcases hq with rfl | rfl | rfl | rfl | rfl | rfl | rfl | rfl
  · exact hrow 7 _ rfl h7 x
  · exact hrow 6 _ rfl h6 x
  · exact hrow 5 _ rfl h5 x
  · exact hrow 4 _ rfl h4 x
  · exact hrow 3 _ rfl h3 x
  · exact hrow 2 _ rfl h2 x
  · exact hrow 1 _ rfl h1 x
  · exact hrow 0 _ rfl h0 x

/-! ## Loads of the gathered blocks -/

/-- The block device `c` takes of device `s`: its rows, `s`'s columns. -/
def aBlock (c s : Dev nD) : S512x512.Idx → Elt F .fp8e5m2 := fun i =>
  stageC m s (at3 (n := 8) (a := 512) (b := 512) c ⟨(i 0).val, (i 0).isLt⟩ ⟨(i 1).val, (i 1).isLt⟩)

/-- Slot `c` of what device `s` stages is the block device `c` takes. -/
theorem stageRead (c s : Dev nD) : (stageSlot c).view.read (Elt F) (stageC m s) = aBlock m c s := by
  funext i
  refine (congrFun (Memref.read_squeeze_slice (Memref.whole cc0_scratch1) _ _ squeezes_S1x512x512_S512x512 shapeCasts_S1x512x512_S512x512 _) i).trans ?_
  refine (shapeCast_dropUnit_apply ![512, 512] _ _ i).trans ?_
  show stageC m s _ = stageC m s _
  congr 1
  funext a
  fin_cases a
  · exact Fin.ext (by show c.val + 1 * 0 = c.val; omega)
  · exact Fin.ext (by show 0 + 1 * (i 0).val = (i 0).val; omega)
  · exact Fin.ext (by show 0 + 1 * (i 1).val = (i 1).val; omega)

/-- A landed slot loaded: the block its sender staged for this device. -/
theorem landLoad (c s : Dev nD) (inb) (fd) (hc hc') :
    shapeCast S512x512 (shapeCast S512x512 (View.readAt (Elt F) (Memref.whole cc0_scratch0).view
        (Rect.unit (s := S8x512x512) ![s.val, 0, 0] S1x512x512.size inb).toLoadRect
        ((commSlot s).view.write (Elt F) fd ((stageSlot c).view.read (Elt F) (stageC m s)) Finset.univ)) hc) hc' = aBlock m c s := by
  rw [shapeCast_self, ← stageRead m c s]
  exact (Memref.read_squeeze_slice (Memref.whole cc0_scratch0) _ _ squeezes_S1x512x512_S512x512 hc _).symm.trans
    (View.read_write_univ (v := (commSlot s).view) fd _)

/-- Eight pieces of 512 columns, each a device's block, read back as the gathered rows. -/
theorem aLoad (c : Dev nD) {P0 P1 P2 P3 P4 P5 P6 P7 : S512x512.Idx → Elt F .fp8e5m2}
    (e0 : P0 = aBlock m c 0) (e1 : P1 = aBlock m c 1) (e2 : P2 = aBlock m c 2) (e3 : P3 = aBlock m c 3)
    (e4 : P4 = aBlock m c 4) (e5 : P5 = aBlock m c 5) (e6 : P6 = aBlock m c 6) (e7 : P7 = aBlock m c 7) (h0 h1 h2 h3 h4 h5 h6 h7 h) :
    (Memref.whole cc0_scratch2).view.readCov (Val := Elt F)
      [⟨Rect.unit (s := S512x4096) ![0, 3584] S512x512.size h7, P7⟩, ⟨Rect.unit (s := S512x4096) ![0, 3072] S512x512.size h6, P6⟩,
        ⟨Rect.unit (s := S512x4096) ![0, 2560] S512x512.size h5, P5⟩, ⟨Rect.unit (s := S512x4096) ![0, 2048] S512x512.size h4, P4⟩,
        ⟨Rect.unit (s := S512x4096) ![0, 1536] S512x512.size h3, P3⟩, ⟨Rect.unit (s := S512x4096) ![0, 1024] S512x512.size h2, P2⟩,
        ⟨Rect.unit (s := S512x4096) ![0, 512] S512x512.size h1, P1⟩, ⟨Rect.unit (s := S512x4096) ![0, 0] S512x512.size h0, P0⟩]
      (Rect.unit (s := S512x4096) ![0, 0] S512x4096.size h).toLoadRect = aC m c := by
  subst e0 e1 e2 e3 e4 e5 e6 e7
  have hcol : ∀ (s : Fin 8) (off : Fin 2 → ℕ) (_ : off = ![0, 512 * s.val]) (hb : ∀ a, off a + S512x512.size a ≤ S512x4096.size a) (x : S512x512.Idx),
      aBlock m c s x = aC m c ((Rect.unit (s := S512x4096) off S512x512.size hb).emb x) := by
    rintro s off rfl hb x
    have hx : (x 1).val < 512 := (x 1).isLt
    unfold aC aBlock
    have e1 : (⟨(((Rect.unit (s := S512x4096) ![0, 512 * s.val] S512x512.size hb).emb x) 1).val / 512, by
        have : (((Rect.unit (s := S512x4096) ![0, 512 * s.val] S512x512.size hb).emb x) 1).val < 4096 := Fin.isLt _; show _ < 8; omega⟩ : Dev nD) = s :=
      Fin.ext (by show (512 * s.val + 1 * (x 1).val) / 512 = s.val; omega)
    rw [e1]
    congr 1
    funext a
    fin_cases a
    · rfl
    · exact Fin.ext (by show (x 0).val = 0 + 1 * (x 0).val; omega)
    · exact Fin.ext (by show (x 1).val = (512 * s.val + 1 * (x 1).val) % 512; omega)
  refine coveredLoad (Memref.whole cc0_scratch2).view (aC m c) [_, _, _, _, _, _, _, _] [] ?_ (View.cover_of_tiled _ S512x512.size rfl) h
  intro q hq x
  simp only [List.mem_cons, List.not_mem_nil, or_false] at hq
  rcases hq with rfl | rfl | rfl | rfl | rfl | rfl | rfl | rfl
  · exact hcol 7 _ rfl h7 x
  · exact hcol 6 _ rfl h6 x
  · exact hcol 5 _ rfl h5 x
  · exact hcol 4 _ rfl h4 x
  · exact hcol 3 _ rfl h3 x
  · exact hcol 2 _ rfl h2 x
  · exact hcol 1 _ rfl h1 x
  · exact hcol 0 _ rfl h0 x

/-! ## The panels of the result -/

/-- A panel stored in a slot of the output buffer and read back as a matrix. -/
theorem slotStore {κ : Idealize.ShloMosaic.Kind} {sp : Space} {s s' : Shape} {e : EltTy} (M : Memref sig κ sp s e) (r : Rect s) (hr) (hq : r.shape.Squeezes s')
    (hc : s'.ShapeCasts r.shape) (f) (X : s'.Idx → Elt F e) :
    View.read (Elt F) ((M.slice r hr).squeeze s' hq).view (View.write (Elt F) (M.access r) f (shapeCast r.shape X hc) Finset.univ) = X := by
  have hc' : r.shape.ShapeCasts s' := hc.symm
  refine (Memref.read_squeeze_slice M r hr hq hc' _).trans ?_
  refine Eq.trans (congrArg (fun g => shapeCast s' g hc') (View.read_write_univ (v := M.access r) f _)) ?_
  exact shapeCast_shapeCast X hc hc'

/-- Contents read the same through a view agree on what the view covers. -/
theorem eqOn_of_read {κ : Idealize.ShloMosaic.Kind} {sp : Space} {s : Shape} {e : EltTy} (v : View sig κ sp s e) (f g : v.ty.Contents (Elt F))
    (h : v.read (Elt F) f = v.read (Elt F) g) : ∀ i ∈ v.set, f i = g i := by
  intro i hi
  obtain ⟨x, rfl⟩ : ∃ x, v.emb x = i := by
    obtain ⟨x, _, hx⟩ := Finset.mem_map.mp hi
    exact ⟨x, hx⟩
  have := congrFun h x
  rw [View.read_apply, View.read_apply] at this
  exact (cast_inj _).mp this

/-- A view written whole with what `G` reads holds `G` where it covers. -/
theorem viewStore {κ : Idealize.ShloMosaic.Kind} {sp : Space} {s : Shape} {e : EltTy} (v : View sig κ sp s e) (f G : v.ty.Contents (Elt F)) (X : s.Idx → Elt F e)
    (h : v.read (Elt F) G = X) : ∀ i ∈ v.set, v.writes (Elt F) f [⟨Rect.whole s, X⟩] i = G i :=
  eqOn_of_read v _ _ ((read_writes_whole v f X []).trans h.symm)

/-- Panel `p` of the result is its product. -/
theorem outC_emb (k : F .f32) (c : Dev nD) (p : Fin 4) (inb : ∀ a : Fin 2, ![0, 2048 * p.val] a + S512x2048.size a ≤ S512x8192.size a) (i : S512x2048.Idx) :
    outC m k c ((Rect.unit (s := S512x8192) ![0, 2048 * p.val] S512x2048.size inb).emb i) = outP m k c p i := by
  have hi : (i 1).val < 2048 := (i 1).isLt
  have hp : p.val < 4 := p.isLt
  unfold outC
  refine congr (congrArg (outP m k c) (Fin.ext ?_)) (funext fun a => ?_)
  · show (2048 * p.val + 1 * (i 1).val) / 2048 = p.val
    omega
  · fin_cases a
    · exact Fin.ext (by show 0 + 1 * (i 0).val = (i 0).val; omega)
    · exact Fin.ext (by show (2048 * p.val + 1 * (i 1).val) % 2048 = (i 1).val; omega)

/-- The result read at panel `p`. -/
theorem panelRead (k : F .f32) (c : Dev nD) (p : Fin 4) (inb : ∀ a : Fin 2, ![0, 2048 * p.val] a + S512x2048.size a ≤ S512x8192.size a) :
   View.read (Elt F) ((Memref.whole main_v1 : Memref sig .tc .hbm S512x8192 .f32).slice (Rect.unit (s := S512x8192) ![0, 2048 * p.val] S512x2048.size inb)
        (fun _ => rfl)).view (outC m k c) = outP m k c p := funext fun i => outC_emb m k c p inb i

/-- Panel `p` written whole with its product holds the result there. -/
theorem panelStore (k : F .f32) (c : Dev nD) (p : Fin 4) (inb : ∀ a : Fin 2, ![0, 2048 * p.val] a + S512x2048.size a ≤ S512x8192.size a)
    (f : (main_v1 : Ref sig .tc).ty.Contents (Elt F)) :
    ∀ i ∈ ((Memref.whole main_v1 : Memref sig .tc .hbm S512x8192 .f32).slice (Rect.unit (s := S512x8192) ![0, 2048 * p.val] S512x2048.size inb)
        (fun _ => rfl)).view.set,
    ((Memref.whole main_v1 : Memref sig .tc .hbm S512x8192 .f32).slice (Rect.unit (s := S512x8192) ![0, 2048 * p.val] S512x2048.size inb)
        (fun _ => rfl)).view.writes (Elt F) f [⟨Rect.whole S512x2048, outP m k c p⟩] i = outC m k c i :=
  viewStore ((Memref.whole main_v1 : Memref sig .tc .hbm S512x8192 .f32).slice (Rect.unit (s := S512x8192) ![0, 2048 * p.val] S512x2048.size inb)
        (fun _ => rfl)).view f (outC m k c) (outP m k c p) (panelRead m k c p inb)

/-- What the device stages, read at slot `d`. -/
theorem castRead (c d : Dev nD) (inb' : ∀ a : Fin 2, ![512 * d.val, 0] a + S512x512.size a ≤ S4096x512.size a) :
    (stageSlot d).view.read (Elt F) (stageC m c) = fun i : S512x512.Idx =>
      q8 (View.readAt (Elt F) (Memref.whole cc0_stg0_0 : Memref sig .tc .vmem S4096x512 .f32).view
        (Rect.unit (s := S4096x512) ![512 * d.val, 0] S512x512.size inb').toLoadRect (xstg m c) i) := by
  rw [stageRead m d c]
  funext i
  refine congrArg (fun j => q8 (xstg m c j)) (?_ : rowOf d ⟨(i 0).val, (i 0).isLt⟩ ⟨(i 1).val, (i 1).isLt⟩
    = (Rect.unit (s := S4096x512) ![512 * d.val, 0] S512x512.size inb').emb i)
  funext a
  fin_cases a
  · exact Fin.ext (by show 512 * d.val + (i 0).val = 512 * d.val + 1 * (i 0).val; omega)
  · exact Fin.ext (by show (i 1).val = 0 + 1 * (i 1).val; omega)

/-- A cast matrix, stored as a slot of the staging buffer. -/
theorem stageStore (c d : Dev nD) (inb : ∀ a : Fin 3, ![d.val, 0, 0] a + S1x512x512.size a ≤ S8x512x512.size a)
    (f : (cc0_scratch1 : Ref sig .tc).ty.Contents (Elt F)) (X : S512x512.Idx → Elt F .fp8e5m2) (hc : S512x512.ShapeCasts S1x512x512)
    (hX : (stageSlot d).view.read (Elt F) (stageC m c) = X) : ∀ i ∈ (stageSlot d).view.set,
    View.write (Elt F) ((Memref.whole cc0_scratch1).access (Rect.unit (s := S8x512x512) ![d.val, 0, 0] S1x512x512.size inb)) f
      (shapeCast S1x512x512 X hc) Finset.univ i = stageC m c i :=
  eqOn_of_read (stageSlot d).view
    (View.write (Elt F) ((Memref.whole cc0_scratch1).access (Rect.unit (s := S8x512x512) ![d.val, 0, 0] S1x512x512.size inb)) f
      (shapeCast S1x512x512 X hc) Finset.univ) (stageC m c)
    ((slotStore (Memref.whole cc0_scratch1) (Rect.unit (s := S8x512x512) ![d.val, 0, 0] S1x512x512.size inb) (fun _ => rfl)
      squeezes_S1x512x512_S512x512 hc f X).trans hX.symm)

/-- A cast after a cast of shape to the same shape, element by element. -/
theorem castSelf {s : Shape} (X : FVec F s .f32) (h : s.ShapeCasts s) (hb : FTy.bits .fp8e5m2 < FTy.bits .f32) :
    (fun i => q8 (X i)) = truncf .fp8e5m2 (shapeCast s X h) hb := by
  rw [shapeCast_self]; rfl

/-- A block of rows of the operand, loaded, cast and stored as a slot of the staging buffer. -/
theorem stageStored (c d : Dev nD) (inb : ∀ a : Fin 3, ![d.val, 0, 0] a + S1x512x512.size a ≤ S8x512x512.size a)
    (inb' : ∀ a : Fin 2, ![512 * d.val, 0] a + S512x512.size a ≤ S4096x512.size a)
    (f : (cc0_scratch1 : Ref sig .tc).ty.Contents (Elt F)) (hc : S512x512.ShapeCasts S1x512x512) (hc' : S512x512.ShapeCasts S512x512)
    (hb : FTy.bits .fp8e5m2 < FTy.bits .f32) : ∀ i ∈ (stageSlot d).view.set,
    View.write (Elt F) ((Memref.whole cc0_scratch1).access (Rect.unit (s := S8x512x512) ![d.val, 0, 0] S1x512x512.size inb)) f
      (shapeCast S1x512x512 (truncf .fp8e5m2 (shapeCast S512x512 (View.readAt (Elt F) (Memref.whole cc0_stg0_0 : Memref sig .tc .vmem S4096x512 .f32).view
        (Rect.unit (s := S4096x512) ![512 * d.val, 0] S512x512.size inb').toLoadRect (xstg m c)) hc' : FVec F S512x512 .f32) hb : FVec F S512x512 .fp8e5m2) hc) Finset.univ i
      = stageC m c i :=
  stageStore m c d inb f _ hc ((castRead m c d inb').trans (castSelf _ hc' hb))

/-- A block of a panel of the weights, copied to a slot, loaded and cast, whatever the slot held before. -/
theorem wPiece (c : Dev nD) (p : Fin 4) (s : Fin 8) (t : Fin 3) (inb : ∀ a : Fin 3, ![t.val, 0, 0] a + S1x512x2048.size a ≤ S3x512x2048.size a)
    (inb' : ∀ a : Fin 2, ![512 * s.val, 2048 * p.val] a + S512x2048.size a ≤ S4096x8192.size a)
    (g : (cc0_scratch3 : Ref sig .tc).ty.Contents (Elt F)) (L : List (View.Piece (Elt F) S512x2048 .f32)) (hc : S1x512x2048.ShapeCasts S512x2048)
    (hc' : S512x2048.ShapeCasts S512x2048) (hb : FTy.bits .fp8e5m2 < FTy.bits .f32) :
    shapeCast S512x2048 (truncf .fp8e5m2 (shapeCast S512x2048 (View.readAt (Elt F) (Memref.whole cc0_scratch3 : Memref sig .tc .vmem S3x512x2048 .f32).view
      (Rect.unit (s := S3x512x2048) ![t.val, 0, 0] S1x512x2048.size inb).toLoadRect
      ((((Memref.whole cc0_scratch3 : Memref sig .tc .vmem S3x512x2048 .f32).slice (Rect.unit (s := S3x512x2048) ![t.val, 0, 0] S1x512x2048.size inb) (fun _ => rfl)).squeeze
        S512x2048 squeezes_S1x512x2048_S512x2048).view.writes (Elt F) g (⟨Rect.whole S512x2048,
          View.read (Elt F) ((Memref.whole main_arg1 : Memref sig .tc .hbm S4096x8192 .f32).slice
            (Rect.unit (s := S4096x8192) ![512 * s.val, 2048 * p.val] S512x2048.size inb') (fun _ => rfl)).view (wOf m c)⟩ :: L))) hc
      : FVec F S512x2048 .f32) hb : FVec F S512x2048 .fp8e5m2) hc' = fun i => q8 (wBlock m c p s i) := by
  rw [shapeCast_self]
  funext i
  exact congrArg q8 (congrFun ((slotLoad (Memref.whole cc0_scratch3 : Memref sig .tc .vmem S3x512x2048 .f32)
    (Rect.unit (s := S3x512x2048) ![t.val, 0, 0] S1x512x2048.size inb) (fun _ => rfl) squeezes_S1x512x2048_S512x2048 hc g
    (View.read (Elt F) ((Memref.whole main_arg1 : Memref sig .tc .hbm S4096x8192 .f32).slice
      (Rect.unit (s := S4096x8192) ![512 * s.val, 2048 * p.val] S512x2048.size inb') (fun _ => rfl)).view (wOf m c)) L).trans (wRead m c p s inb')) i)

/-- A panel computed from the gathered rows and the cast weights, stored in a slot of the output buffer and copied out, holds the result there. -/
theorem panelDone (k : F .f32) (c : Dev nD) (p : Fin 4) (t : Fin 2) (inb : ∀ a : Fin 3, ![t.val, 0, 0] a + S1x512x2048.size a ≤ S2x512x2048.size a)
    (inb' : ∀ a : Fin 2, ![0, 2048 * p.val] a + S512x2048.size a ≤ S512x8192.size a) (fy : (main_v1 : Ref sig .tc).ty.Contents (Elt F))
    (f : (cc0_scratch5 : Ref sig .tc).ty.Contents (Elt F)) (hc : S512x2048.ShapeCasts S1x512x2048)
    {A : Vec F S512x4096 .fp8e5m2} {B : Vec F S4096x2048 .fp8e5m2} (hA : A = aC m c) (hB : B = w8C m c p) :
    ∀ i ∈ ((Memref.whole main_v1 : Memref sig .tc .hbm S512x8192 .f32).slice (Rect.unit (s := S512x8192) ![0, 2048 * p.val] S512x2048.size inb')
        (fun _ => rfl)).view.set,
    ((Memref.whole main_v1 : Memref sig .tc .hbm S512x8192 .f32).slice (Rect.unit (s := S512x8192) ![0, 2048 * p.val] S512x2048.size inb')
        (fun _ => rfl)).view.writes (Elt F) fy [⟨Rect.whole S512x2048,
      View.read (Elt F) (((Memref.whole cc0_scratch5 : Memref sig .tc .vmem S2x512x2048 .f32).slice
          (Rect.unit (s := S2x512x2048) ![t.val, 0, 0] S1x512x2048.size inb) (fun _ => rfl)).squeeze S512x2048 squeezes_S1x512x2048_S512x2048).view
        (View.write (Elt F) ((Memref.whole cc0_scratch5 : Memref sig .tc .vmem S2x512x2048 .f32).access (Rect.unit (s := S2x512x2048) ![t.val, 0, 0] S1x512x2048.size inb))
          f (shapeCast S1x512x2048 (k0_pay50 k A B) hc) Finset.univ)⟩] i = outC m k c i := by
  subst hA hB
  exact viewStore ((Memref.whole main_v1 : Memref sig .tc .hbm S512x8192 .f32).slice (Rect.unit (s := S512x8192) ![0, 2048 * p.val] S512x2048.size inb')
        (fun _ => rfl)).view fy (outC m k c) (View.read (Elt F) (((Memref.whole cc0_scratch5 : Memref sig .tc .vmem S2x512x2048 .f32).slice
          (Rect.unit (s := S2x512x2048) ![t.val, 0, 0] S1x512x2048.size inb) (fun _ => rfl)).squeeze S512x2048 squeezes_S1x512x2048_S512x2048).view
        (View.write (Elt F) ((Memref.whole cc0_scratch5 : Memref sig .tc .vmem S2x512x2048 .f32).access (Rect.unit (s := S2x512x2048) ![t.val, 0, 0] S1x512x2048.size inb))
          f (shapeCast S1x512x2048 (k0_pay50 k (aC m c) (w8C m c p)) hc) Finset.univ))
    ((panelRead m k c p inb').trans (slotStore (Memref.whole cc0_scratch5 : Memref sig .tc .vmem S2x512x2048 .f32)
      (Rect.unit (s := S2x512x2048) ![t.val, 0, 0] S1x512x2048.size inb) (fun _ => rfl) squeezes_S1x512x2048_S512x2048 hc f
      (k0_pay50 k (aC m c) (w8C m c p))).symm)

end Cert.Exchange

end
-- ==== Proof.Views.lean ====
/-
# The program's names for the exchange's cells and slots, and what every device is handed

The program spells a slot or a semaphore by the slice it takes; here each spelling is one of the exchange's names.
Then the invariants and marks every device may use (`records`), and families over the eight devices opened one by one.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ)

/-! ## Spellings -/

/-- A semaphore of an eight-semaphore array lies in it. -/
theorem sem_inb : ∀ (s : Fin 8) (a : Fin 1), (![s.val] : Fin 1 → Nat) a + S1.size a ≤ S8.size a := by decide
/-- The program's send semaphore `d`. -/
theorem send_eq : ∀ d : Fin 8, ((cc0_scratch6.slice (Rect.unit (s := S8) ![d.val] S1.size (sem_inb d))).squeeze S_ squeezes_S1_S_).sem = sendQ d := by decide
/-- The program's receive semaphore `d`. -/
theorem recv_eq : ∀ d : Fin 8, ((cc0_scratch7.slice (Rect.unit (s := S8) ![d.val] S1.size (sem_inb d))).squeeze S_ squeezes_S1_S_).sem = recvQ d := by decide

@[sl_canon] theorem dev1_eq (h) : (⟨k0_dev1, h⟩ : Dev nD) = (0 : Fin 8) := Fin.ext k0_dev1_eq
@[sl_canon] theorem dev2_eq (h) : (⟨k0_dev2, h⟩ : Dev nD) = (1 : Fin 8) := Fin.ext k0_dev2_eq
@[sl_canon] theorem dev3_eq (h) : (⟨k0_dev3, h⟩ : Dev nD) = (2 : Fin 8) := Fin.ext k0_dev3_eq
@[sl_canon] theorem dev4_eq (h) : (⟨k0_dev4, h⟩ : Dev nD) = (3 : Fin 8) := Fin.ext k0_dev4_eq
@[sl_canon] theorem dev5_eq (h) : (⟨k0_dev5, h⟩ : Dev nD) = (4 : Fin 8) := Fin.ext k0_dev5_eq
@[sl_canon] theorem dev6_eq (h) : (⟨k0_dev6, h⟩ : Dev nD) = (5 : Fin 8) := Fin.ext k0_dev6_eq
@[sl_canon] theorem dev7_eq (h) : (⟨k0_dev7, h⟩ : Dev nD) = (6 : Fin 8) := Fin.ext k0_dev7_eq
@[sl_canon] theorem dev8_eq (h) : (⟨k0_dev8, h⟩ : Dev nD) = (7 : Fin 8) := Fin.ext k0_dev8_eq
@[sl_canon] theorem dev9_eq (h) : (⟨k0_dev9, h⟩ : Dev nD) = (0 : Fin 8) := Fin.ext k0_dev9_eq
@[sl_canon] theorem dev10_eq (h) : (⟨k0_dev10, h⟩ : Dev nD) = (1 : Fin 8) := Fin.ext k0_dev10_eq
@[sl_canon] theorem dev11_eq (h) : (⟨k0_dev11, h⟩ : Dev nD) = (2 : Fin 8) := Fin.ext k0_dev11_eq
@[sl_canon] theorem dev12_eq (h) : (⟨k0_dev12, h⟩ : Dev nD) = (3 : Fin 8) := Fin.ext k0_dev12_eq
@[sl_canon] theorem dev13_eq (h) : (⟨k0_dev13, h⟩ : Dev nD) = (4 : Fin 8) := Fin.ext k0_dev13_eq
@[sl_canon] theorem dev14_eq (h) : (⟨k0_dev14, h⟩ : Dev nD) = (5 : Fin 8) := Fin.ext k0_dev14_eq
@[sl_canon] theorem dev15_eq (h) : (⟨k0_dev15, h⟩ : Dev nD) = (6 : Fin 8) := Fin.ext k0_dev15_eq
@[sl_canon] theorem dev16_eq (h) : (⟨k0_dev16, h⟩ : Dev nD) = (7 : Fin 8) := Fin.ext k0_dev16_eq
@[sl_canon] theorem stage0_eq (h h') : ((Memref.whole cc0_scratch1).slice (Rect.unit (s := S8x512x512) ![0, 0, 0] S1x512x512.size h) h').squeeze S512x512 squeezes_S1x512x512_S512x512 = stageSlot 0 := rfl
@[sl_canon] theorem comm0_eq (h h') : ((Memref.whole cc0_scratch0).slice (Rect.unit (s := S8x512x512) ![0, 0, 0] S1x512x512.size h) h').squeeze S512x512 squeezes_S1x512x512_S512x512 = commSlot 0 := rfl
@[sl_canon] theorem send0_eq (h) : ((cc0_scratch6.slice (Rect.unit (s := S8) ![0] S1.size h)).squeeze S_ squeezes_S1_S_).sem = sendQ 0 := send_eq 0
@[sl_canon] theorem recv0_eq (h) : ((cc0_scratch7.slice (Rect.unit (s := S8) ![0] S1.size h)).squeeze S_ squeezes_S1_S_).sem = recvQ 0 := recv_eq 0
@[sl_canon] theorem stage1_eq (h h') : ((Memref.whole cc0_scratch1).slice (Rect.unit (s := S8x512x512) ![1, 0, 0] S1x512x512.size h) h').squeeze S512x512 squeezes_S1x512x512_S512x512 = stageSlot 1 := rfl
@[sl_canon] theorem comm1_eq (h h') : ((Memref.whole cc0_scratch0).slice (Rect.unit (s := S8x512x512) ![1, 0, 0] S1x512x512.size h) h').squeeze S512x512 squeezes_S1x512x512_S512x512 = commSlot 1 := rfl
@[sl_canon] theorem send1_eq (h) : ((cc0_scratch6.slice (Rect.unit (s := S8) ![1] S1.size h)).squeeze S_ squeezes_S1_S_).sem = sendQ 1 := send_eq 1
@[sl_canon] theorem recv1_eq (h) : ((cc0_scratch7.slice (Rect.unit (s := S8) ![1] S1.size h)).squeeze S_ squeezes_S1_S_).sem = recvQ 1 := recv_eq 1
@[sl_canon] theorem stage2_eq (h h') : ((Memref.whole cc0_scratch1).slice (Rect.unit (s := S8x512x512) ![2, 0, 0] S1x512x512.size h) h').squeeze S512x512 squeezes_S1x512x512_S512x512 = stageSlot 2 := rfl
@[sl_canon] theorem comm2_eq (h h') : ((Memref.whole cc0_scratch0).slice (Rect.unit (s := S8x512x512) ![2, 0, 0] S1x512x512.size h) h').squeeze S512x512 squeezes_S1x512x512_S512x512 = commSlot 2 := rfl
@[sl_canon] theorem send2_eq (h) : ((cc0_scratch6.slice (Rect.unit (s := S8) ![2] S1.size h)).squeeze S_ squeezes_S1_S_).sem = sendQ 2 := send_eq 2
@[sl_canon] theorem recv2_eq (h) : ((cc0_scratch7.slice (Rect.unit (s := S8) ![2] S1.size h)).squeeze S_ squeezes_S1_S_).sem = recvQ 2 := recv_eq 2
@[sl_canon] theorem stage3_eq (h h') : ((Memref.whole cc0_scratch1).slice (Rect.unit (s := S8x512x512) ![3, 0, 0] S1x512x512.size h) h').squeeze S512x512 squeezes_S1x512x512_S512x512 = stageSlot 3 := rfl
@[sl_canon] theorem comm3_eq (h h') : ((Memref.whole cc0_scratch0).slice (Rect.unit (s := S8x512x512) ![3, 0, 0] S1x512x512.size h) h').squeeze S512x512 squeezes_S1x512x512_S512x512 = commSlot 3 := rfl
@[sl_canon] theorem send3_eq (h) : ((cc0_scratch6.slice (Rect.unit (s := S8) ![3] S1.size h)).squeeze S_ squeezes_S1_S_).sem = sendQ 3 := send_eq 3
@[sl_canon] theorem recv3_eq (h) : ((cc0_scratch7.slice (Rect.unit (s := S8) ![3] S1.size h)).squeeze S_ squeezes_S1_S_).sem = recvQ 3 := recv_eq 3
@[sl_canon] theorem stage4_eq (h h') : ((Memref.whole cc0_scratch1).slice (Rect.unit (s := S8x512x512) ![4, 0, 0] S1x512x512.size h) h').squeeze S512x512 squeezes_S1x512x512_S512x512 = stageSlot 4 := rfl
@[sl_canon] theorem comm4_eq (h h') : ((Memref.whole cc0_scratch0).slice (Rect.unit (s := S8x512x512) ![4, 0, 0] S1x512x512.size h) h').squeeze S512x512 squeezes_S1x512x512_S512x512 = commSlot 4 := rfl
@[sl_canon] theorem send4_eq (h) : ((cc0_scratch6.slice (Rect.unit (s := S8) ![4] S1.size h)).squeeze S_ squeezes_S1_S_).sem = sendQ 4 := send_eq 4
@[sl_canon] theorem recv4_eq (h) : ((cc0_scratch7.slice (Rect.unit (s := S8) ![4] S1.size h)).squeeze S_ squeezes_S1_S_).sem = recvQ 4 := recv_eq 4
@[sl_canon] theorem stage5_eq (h h') : ((Memref.whole cc0_scratch1).slice (Rect.unit (s := S8x512x512) ![5, 0, 0] S1x512x512.size h) h').squeeze S512x512 squeezes_S1x512x512_S512x512 = stageSlot 5 := rfl
@[sl_canon] theorem comm5_eq (h h') : ((Memref.whole cc0_scratch0).slice (Rect.unit (s := S8x512x512) ![5, 0, 0] S1x512x512.size h) h').squeeze S512x512 squeezes_S1x512x512_S512x512 = commSlot 5 := rfl
@[sl_canon] theorem send5_eq (h) : ((cc0_scratch6.slice (Rect.unit (s := S8) ![5] S1.size h)).squeeze S_ squeezes_S1_S_).sem = sendQ 5 := send_eq 5
@[sl_canon] theorem recv5_eq (h) : ((cc0_scratch7.slice (Rect.unit (s := S8) ![5] S1.size h)).squeeze S_ squeezes_S1_S_).sem = recvQ 5 := recv_eq 5
@[sl_canon] theorem stage6_eq (h h') : ((Memref.whole cc0_scratch1).slice (Rect.unit (s := S8x512x512) ![6, 0, 0] S1x512x512.size h) h').squeeze S512x512 squeezes_S1x512x512_S512x512 = stageSlot 6 := rfl
@[sl_canon] theorem comm6_eq (h h') : ((Memref.whole cc0_scratch0).slice (Rect.unit (s := S8x512x512) ![6, 0, 0] S1x512x512.size h) h').squeeze S512x512 squeezes_S1x512x512_S512x512 = commSlot 6 := rfl
@[sl_canon] theorem send6_eq (h) : ((cc0_scratch6.slice (Rect.unit (s := S8) ![6] S1.size h)).squeeze S_ squeezes_S1_S_).sem = sendQ 6 := send_eq 6
@[sl_canon] theorem recv6_eq (h) : ((cc0_scratch7.slice (Rect.unit (s := S8) ![6] S1.size h)).squeeze S_ squeezes_S1_S_).sem = recvQ 6 := recv_eq 6
@[sl_canon] theorem stage7_eq (h h') : ((Memref.whole cc0_scratch1).slice (Rect.unit (s := S8x512x512) ![7, 0, 0] S1x512x512.size h) h').squeeze S512x512 squeezes_S1x512x512_S512x512 = stageSlot 7 := rfl
@[sl_canon] theorem comm7_eq (h h') : ((Memref.whole cc0_scratch0).slice (Rect.unit (s := S8x512x512) ![7, 0, 0] S1x512x512.size h) h').squeeze S512x512 squeezes_S1x512x512_S512x512 = commSlot 7 := rfl
@[sl_canon] theorem send7_eq (h) : ((cc0_scratch6.slice (Rect.unit (s := S8) ![7] S1.size h)).squeeze S_ squeezes_S1_S_).sem = sendQ 7 := send_eq 7
@[sl_canon] theorem recv7_eq (h) : ((cc0_scratch7.slice (Rect.unit (s := S8) ![7] S1.size h)).squeeze S_ squeezes_S1_S_).sem = recvQ 7 := recv_eq 7

/-- The landing slot a device names by its own number. -/
@[sl_canon] theorem commC_eq (c : Dev nD) (h h') : ((Memref.whole cc0_scratch0).slice (Rect.unit (s := S8x512x512) (k0_off2 c) S1x512x512.size h) h').squeeze S512x512 squeezes_S1x512x512_S512x512 = commSlot c := by
  revert h h'; rw [k0_off2_eq c]; intros; rfl
/-- The receive semaphore a device names by its own number. -/
@[sl_canon] theorem recvC_eq (c : Dev nD) (h) : ((cc0_scratch7.slice (Rect.unit (s := S8) (k0_off1 c) S1.size h)).squeeze S_ squeezes_S1_S_).sem = recvQ c := by
  revert h; rw [k0_off1_eq c]; intro h; exact recv_eq c

/-- Slot 0 of the weights' buffer. -/
abbrev wSlot0 : Memref sig .tc .vmem S512x2048 .f32 := ((Memref.whole cc0_scratch3).slice (Rect.unit (s := S3x512x2048) ![0, 0, 0] S1x512x2048.size inb_S3x512x2048_S1x512x2048_0_0_0) (fun _ => rfl)).squeeze S512x2048 squeezes_S1x512x2048_S512x2048
/-- Slot 1 of the weights' buffer. -/
abbrev wSlot1 : Memref sig .tc .vmem S512x2048 .f32 := ((Memref.whole cc0_scratch3).slice (Rect.unit (s := S3x512x2048) ![1, 0, 0] S1x512x2048.size inb_S3x512x2048_S1x512x2048_1_0_0) (fun _ => rfl)).squeeze S512x2048 squeezes_S1x512x2048_S512x2048
/-- Slot 2 of the weights' buffer. -/
abbrev wSlot2 : Memref sig .tc .vmem S512x2048 .f32 := ((Memref.whole cc0_scratch3).slice (Rect.unit (s := S3x512x2048) ![2, 0, 0] S1x512x2048.size inb_S3x512x2048_S1x512x2048_2_0_0) (fun _ => rfl)).squeeze S512x2048 squeezes_S1x512x2048_S512x2048
/-- Slot 0 of the output buffer. -/
abbrev oSlot0 : Memref sig .tc .vmem S512x2048 .f32 := ((Memref.whole cc0_scratch5).slice (Rect.unit (s := S2x512x2048) ![0, 0, 0] S1x512x2048.size inb_S2x512x2048_S1x512x2048_0_0_0) (fun _ => rfl)).squeeze S512x2048 squeezes_S1x512x2048_S512x2048
/-- Slot 1 of the output buffer. -/
abbrev oSlot1 : Memref sig .tc .vmem S512x2048 .f32 := ((Memref.whole cc0_scratch5).slice (Rect.unit (s := S2x512x2048) ![1, 0, 0] S1x512x2048.size inb_S2x512x2048_S1x512x2048_1_0_0) (fun _ => rfl)).squeeze S512x2048 squeezes_S1x512x2048_S512x2048
/-- Panel 0 of the result. -/
abbrev panel0 : Memref sig .tc .hbm S512x2048 .f32 := (Memref.whole main_v1).slice (Rect.unit (s := S512x8192) ![0, 0] S512x2048.size inb_S512x8192_S512x2048_0_0) (fun _ => rfl)
/-- Panel 1 of the result. -/
abbrev panel1 : Memref sig .tc .hbm S512x2048 .f32 := (Memref.whole main_v1).slice (Rect.unit (s := S512x8192) ![0, 2048] S512x2048.size inb_S512x8192_S512x2048_0_2048) (fun _ => rfl)
/-- Panel 2 of the result. -/
abbrev panel2 : Memref sig .tc .hbm S512x2048 .f32 := (Memref.whole main_v1).slice (Rect.unit (s := S512x8192) ![0, 4096] S512x2048.size inb_S512x8192_S512x2048_0_4096) (fun _ => rfl)
/-- Panel 3 of the result. -/
abbrev panel3 : Memref sig .tc .hbm S512x2048 .f32 := (Memref.whole main_v1).slice (Rect.unit (s := S512x8192) ![0, 6144] S512x2048.size inb_S512x8192_S512x2048_0_6144) (fun _ => rfl)

/-! ## The schedule's payloads, spelt out -/

/-- Every device's number is a duty of a barrier cell. -/
theorem bar_mem (c : Dev nD) (d : Fin 8) : d ∈ (sched (F := F) m).duties (barCell c) 0 := by rw [duties_bar]; exact Finset.mem_univ _

/-- A send cell pays back the staged slot. -/
theorem payload_send' (c d e : Fin 8) : (sched (F := F) m).payload (sendCell c d) 0 e =
    iprop((stageSlot d).view.loc (c : Thread nD τ) ↦[(stageSlot d).view.set]{fullShare} stageC m c) := payload_send m c d e
/-- A receive cell pays the landed slot. -/
theorem payload_recv' (c s e : Fin 8) : (sched (F := F) m).payload (recvCell c s) 0 e =
    iprop(∃ fd, (commSlot s).view.loc (c : Thread nD τ) ↦[(commSlot s).view.set]{fullShare}
      ((commSlot s).view.write (Elt F) fd ((stageSlot c).view.read (Elt F) (stageC m s)) Finset.univ)) := payload_recv m c s e

/-! ## Families over the eight devices -/

omit [FloatOps F] in
/-- A family over eight, one by one. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The barrier cell may be waited on owing the eight receive credits. -/
theorem mayWait_bar' (c : Dev nD) : (levAts L lv : sProp 𝕄) ⊢ MayWait (c : Thread nD τ) (.reg barS) () (tallyAt (recvCell 0 c) () N + tallyAt (recvCell 1 c) () N + tallyAt (recvCell 2 c) () N + tallyAt (recvCell 3 c) () N + tallyAt (recvCell 4 c) () N + tallyAt (recvCell 5 c) () N + tallyAt (recvCell 6 c) () N + tallyAt (recvCell 7 c) () N) := by
  have h := mayWait_bar (F := F) c
  rw [owedRecv, Fin.sum_univ_eight] at h
  exact h

/-- What is owed at launch, one by one. -/
theorem O₀_eq (c : Dev nD) : O₀ c = tallyAt (recvCell 0 c) () N + tallyAt (recvCell 1 c) () N + tallyAt (recvCell 2 c) () N + tallyAt (recvCell 3 c) () N + tallyAt (recvCell 4 c) () N + tallyAt (recvCell 5 c) () N + tallyAt (recvCell 6 c) () N + tallyAt (recvCell 7 c) () N
      + (tallyAt (barCell 0) () 1 + tallyAt (barCell 1) () 1 + tallyAt (barCell 2) () 1 + tallyAt (barCell 3) () 1 + tallyAt (barCell 4) () 1 + tallyAt (barCell 5) () 1 + tallyAt (barCell 6) () 1 + tallyAt (barCell 7) () 1) := by
  rw [O₀, owedRecv, owedBar, Fin.sum_univ_eight, Fin.sum_univ_eight]

/-! ## The cells by number, and their records -/

/-- The exchange's semaphores of a device by number: its barrier, its eight send semaphores, its eight receive semaphores. -/
def csem (k : Fin 17) : SemLoc sig := if k.val = 0 then .reg barS else .dma ⟨k.val + 2, by have := k.isLt; show k.val + 2 < 25; omega⟩
/-- The exchange's cells. -/
abbrev kcell (ck : Dev nD × Fin 17) : GSem nD τ sig := ((ck.1 : Thread nD τ), csem ck.2)
/-- The number of send semaphore `d`. -/
def sIx (d : Fin 8) : Fin 17 := ⟨1 + d.val, by omega⟩
/-- The number of receive semaphore `s`. -/
def rIx (s : Fin 8) : Fin 17 := ⟨9 + s.val, by omega⟩

theorem csem_bar : csem 0 = .reg barS := rfl
theorem csem_send (d : Fin 8) : csem (sIx d) = .dma (sendQ d) := by fin_cases d <;> rfl
theorem csem_recv (s : Fin 8) : csem (rIx s) = .dma (recvQ s) := by fin_cases s <;> rfl
theorem kcell_send (c : Dev nD) (d : Fin 8) : kcell (c, sIx d) = sendCell c d := congrArg (Prod.mk (c : Thread nD τ)) (csem_send d)
theorem kcell_recv (c : Dev nD) (s : Fin 8) : kcell (c, rIx s) = recvCell c s := congrArg (Prod.mk (c : Thread nD τ)) (csem_recv s)

omit [FloatOps F] in
/-- A family gives each of its members. -/
theorem fam_elim {I : Type} [Fintype I] [DecidableEq I] (Φ : I → sProp 𝕄) (i : I) : (bigSep Finset.univ Φ : sProp 𝕄) ⊢ Φ i := bigSep_elim (Finset.mem_univ i)

/-- Every cell's invariant, and that it has reached round 0. -/
def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

theorem inv_at (K : Dev nD × Fin 17 → ℕ) (ck : Dev nD × Fin 17) : records m K ⊢ cellInv ER (sched m) (K ck) (kcell ck) := by
  unfold records
  iintro ⟨#H, -⟩
  iapply (fam_elim (fun ck : Dev nD × Fin 17 => cellInv ER (sched m) (K ck) (kcell ck)) ck) $$ H
theorem reached_at (K : Dev nD × Fin 17 → ℕ) (ck : Dev nD × Fin 17) : records m K ⊢ reached ER (kcell ck) 0 := by
  unfold records
  iintro ⟨-, #H⟩
  iapply (fam_elim (F := F) (fun ck : Dev nD × Fin 17 => reached ER (kcell ck) 0) ck) $$ H

theorem send_inv (K) (c : Dev nD) (d : Fin 8) : records m K ⊢ cellInv ER (sched m) (K (c, sIx d)) (sendCell c d) := by
  rw [← kcell_send]; exact inv_at m K (c, sIx d)
theorem recv_inv (K) (c : Dev nD) (d : Fin 8) : records m K ⊢ cellInv ER (sched m) (K (c, rIx d)) (recvCell c d) := by
  rw [← kcell_recv]; exact inv_at m K (c, rIx d)
theorem send_reached (K) (c : Dev nD) (d : Fin 8) : records m K ⊢ reached ER (sendCell c d) 0 := by
  rw [← kcell_send]; exact reached_at m K (c, sIx d)
theorem recv_reached (K) (c : Dev nD) (d : Fin 8) : records m K ⊢ reached ER (recvCell c d) 0 := by
  rw [← kcell_recv]; exact reached_at m K (c, rIx d)

/-- What a persistent proposition gives of every device, it gives of all. -/
theorem each {R : sProp 𝕄} [BI.Persistent R] {Φ : Fin 8 → sProp 𝕄} (h : ∀ d, R ⊢ Φ d) : R ⊢ bigSep Finset.univ Φ :=
  (BI.bigSep_of_persistent Finset.univ R).trans (bigSep_mono fun d _ => h d)

/-- The records device `c`'s run uses: everyone's barrier; its own send cells; its receive cell on everyone; its own receive cells. -/
theorem records_open (K) (c : Dev nD) : records m K ⊢ iprop(
    (bigSep Finset.univ fun d : Fin 8 => cellInv ER (sched m) (K (d, 0)) (barCell d))
    ∗ cellInv ER (sched m) (K (c, 0)) (barCell c)
    ∗ (bigSep Finset.univ fun d : Fin 8 => reached ER (barCell d) 0)
    ∗ (bigSep Finset.univ fun d : Fin 8 => cellInv ER (sched m) (K (c, sIx d)) (sendCell c d))
    ∗ (bigSep Finset.univ fun d : Fin 8 => reached ER (sendCell c d) 0)
    ∗ (bigSep Finset.univ fun d : Fin 8 => cellInv ER (sched m) (K (d, rIx c)) (recvCell d c))
    ∗ (bigSep Finset.univ fun d : Fin 8 => cellInv ER (sched m) (K (c, rIx d)) (recvCell c d))) := by
  iintro #H
  isplitr; · iapply (each fun d => inv_at m K (d, 0)) $$ H
  isplitr; · iapply (inv_at m K (c, 0)) $$ H
  isplitr; · iapply (each fun d => reached_at m K (d, 0)) $$ H
  isplitr; · iapply (each fun d => send_inv m K c d) $$ H
  isplitr; · iapply (each fun d => send_reached m K c d) $$ H
  isplitr; · iapply (each fun d => recv_inv m K d c) $$ H
  iapply (each fun d => recv_inv m K c d) $$ H

/-- What device `c` hands everyone at the barrier: its landing slots. -/
theorem barPays (K) (c : Dev nD) (f : (cc0_scratch0 : Ref sig .tc).ty.Contents (Elt F)) :
    iprop(records m K ∗ bigSep Finset.univ fun d : Fin 8 => commPts c d f) ⊢ bigSep Finset.univ fun d : Fin 8 => barPay (F := F) d c := by
  have h1 : ∀ d : Fin 8, iprop(reached ER (recvCell c d) 0 ∗ commPts c d f) ⊢ (barPay (F := F) d c : sProp 𝕄) := fun d => by
    unfold barPay
    iintro ⟨HR, Hc⟩
    isplitl [Hc]
    · iexists f; iexact Hc
    iexact HR
  refine (sep_mono_left (each (Φ := fun d => reached ER (recvCell c d) 0) fun d => recv_reached m K c d)).trans ?_
  rw [← bigSep_sep']
  exact bigSep_mono fun d _ => h1 d

/-- What device `c` is handed at the barrier: its slot on everyone. -/
theorem bar_open (c : Dev nD) : (bigSep Finset.univ fun d : Fin 8 => barPay (F := F) c d) ⊢
    (bigSep Finset.univ fun d : Fin 8 => iprop((∃ f, (commSlot c).view.loc ((d : Dev nD) : Thread nD τ) ↦[(commSlot c).view.set]{fullShare} f) ∗ reached ER (recvCell d c) 0)) :=
  bigSep_mono fun d _ => by unfold barPay commPts; exact BI.Entails.refl _

/-- Every cell of device `c`'s past its round closes: its counter is zero again. -/
theorem close_all (K) (c : Dev nD) : iprop(records m K ∗ atPos ER (barCell c) 1 ∅ 0
      ∗ (bigSep Finset.univ fun d : Fin 8 => atPos ER (sendCell c d) 1 ∅ 0) ∗ (bigSep Finset.univ fun d : Fin 8 => atPos ER (recvCell c d) 1 ∅ 0))
    ⊢ |={Set.univ}=> iprop(semVal (barCell c) 0 ∗ (bigSep Finset.univ fun d : Fin 8 => semVal (sendCell c d) 0)
      ∗ (bigSep Finset.univ fun d : Fin 8 => semVal (recvCell c d) 0) : sProp 𝕄) := by
  have close1 : ∀ (κ : ℕ) (g : GSem nD τ sig), iprop(cellInv ER (sched (F := F) m) κ g ∗ atPos ER g 1 ∅ 0) ⊢ (|={Set.univ}=> semVal g 0 : sProp 𝕄) := fun κ g =>
    Rounds.cell_close ER (sched m) (Set.mem_univ κ) (fun h => h) (R := 1) (duties_later m g)
  have hs : iprop(records m K ∗ bigSep Finset.univ fun d : Fin 8 => atPos ER (sendCell c d) 1 ∅ 0)
      ⊢ (|={Set.univ}=> bigSep Finset.univ fun d : Fin 8 => semVal (sendCell c d) 0 : sProp 𝕄) := by
    refine (sep_mono_left (each (fun d => send_inv m K c d))).trans ?_
    rw [← bigSep_sep']
    exact (bigSep_mono fun d _ => close1 _ _).trans (bigSep_fupd _ _)
  have hr : iprop(records m K ∗ bigSep Finset.univ fun d : Fin 8 => atPos ER (recvCell c d) 1 ∅ 0)
      ⊢ (|={Set.univ}=> bigSep Finset.univ fun d : Fin 8 => semVal (recvCell c d) 0 : sProp 𝕄) := by
    refine (sep_mono_left (each (fun d => recv_inv m K c d))).trans ?_
    rw [← bigSep_sep']
    exact (bigSep_mono fun d _ => close1 _ _).trans (bigSep_fupd _ _)
  iintro ⟨#H, Hb, Hs, Hr⟩
  imod (close1 (K (c, 0)) (barCell c)) $$ [Hb] with Hb
  · isplitr; · iapply (inv_at m K (c, 0)) $$ H
    iexact Hb
  imod hs $$ [Hs] with Hs
  · isplitr; · iexact H
    iexact Hs
  imod hr $$ [Hr] with Hr
  · isplitr; · iexact H
    iexact Hr
  imodintro
  isplitl [Hb]; · iexact Hb
  isplitl [Hs] <;> iassumption

end Cert.Exchange

end
-- ==== Proof.Body.lean ====
/-
# One device's run

The body, executed once at a symbolic device `c`: from the exchange's records and tokens, the buffers cut in slots and the result cut in panels,
to every cell of the device at its end, the buffers back, and the panels holding the product of the gathered rows and the weights.
-/
module

public import proofs.«01_k».proof.Proof.Views

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ)

/-- No program variants. -/
abbrev 𝒱₀ : Variants := Variants.none

attribute [local sl_rounds] duties_bar duties_send duties_recv amount_bar amount_send amount_recv expect_bar expect_send expect_recv
  payload_bar payload_send' payload_recv' bar_mem

/-- Contents of a buffer. -/
abbrev Held (b : Ref sig .tc) : Type := b.ty.Contents (Elt F)

/-- Part of a buffer under contents that agree there. -/
theorem restate {ℓ : Loc nD τ sig} {I : Finset ℓ.2.ty.shape.Idx} {f g : Buf (Elt F) ℓ} (h : ∀ i ∈ I, f i = g i) :
    (ℓ ↦[I]{fullShare} f : sProp 𝕄) ⊢ (ℓ ↦[I]{fullShare} g) := Entails.of_eq (pointsTo_congr h)

/-- The exchange's share of a device: its positions, the tokens of the duties it pays, its credits. -/
def shareOf (c : Dev nD) : sProp 𝕄 :=
  iprop(atPos ER (barCell c) 0 ∅ 0 ∗ (bigSep Finset.univ fun d : Fin 8 => atPos ER (sendCell c d) 0 ∅ 0)
    ∗ (bigSep Finset.univ fun d : Fin 8 => atPos ER (recvCell c d) 0 ∅ 0)
    ∗ (bigSep Finset.univ fun d : Fin 8 => dutyTok ER (barCell d) 0 (c : Fin 8))
    ∗ (bigSep Finset.univ fun d : Fin 8 => dutyTok ER (sendCell c d) 0 (0 : Fin 8))
    ∗ (bigSep Finset.univ fun d : Fin 8 => dutyTok ER (recvCell d c) 0 (0 : Fin 8))
    ∗ cred (tallyAt (barCell c) () 8)
    ∗ (bigSep Finset.univ fun d : Fin 8 => cred (tallyAt (recvCell c d) () N)))

/-- The semaphores of the device's own copies, at zero. -/
def copySems (c : Dev nD) : sProp 𝕄 :=
  iprop(semVal ((c : Thread nD τ), .dma (⟨19, by decide⟩ : DmaSem sig)) 0 ∗ semVal ((c : Thread nD τ), .dma (⟨20, by decide⟩ : DmaSem sig)) 0
    ∗ semVal ((c : Thread nD τ), .dma (⟨21, by decide⟩ : DmaSem sig)) 0 ∗ semVal ((c : Thread nD τ), .dma (⟨22, by decide⟩ : DmaSem sig)) 0
    ∗ semVal ((c : Thread nD τ), .dma (⟨23, by decide⟩ : DmaSem sig)) 0 ∗ semVal ((c : Thread nD τ), .dma (⟨24, by decide⟩ : DmaSem sig)) 0)

/-- The operands, which the run only reads. -/
def operands (c : Dev nD) (sx : Held (F := F) cc0_stg1_0) (sw : Held (F := F) cc0_stg2_0) : sProp 𝕄 :=
  iprop(((Memref.whole cc0_stg0_0).view.loc (c : Thread nD τ) ↦{fullShare} xstg m c)
    ∗ ((Memref.whole cc0_stg1_0).view.loc (c : Thread nD τ) ↦{fullShare} sx)
    ∗ ((Memref.whole cc0_stg2_0).view.loc (c : Thread nD τ) ↦{fullShare} sw)
    ∗ ((Memref.whole main_arg1).view.loc (c : Thread nD τ) ↦{fullShare} m ((c : Thread nD τ).loc main_arg1)))

/-- The scratch buffers, those copied into by slots cut in them. -/
def scratch (c : Dev nD) (fc : Held (F := F) cc0_scratch0) (fst : Held (F := F) cc0_scratch1) (fa : Held (F := F) cc0_scratch2)
    (fwf : Held (F := F) cc0_scratch3) (fw8 : Held (F := F) cc0_scratch4) (fo : Held (F := F) cc0_scratch5) : sProp 𝕄 :=
  iprop((bigSep Finset.univ fun d : Fin 8 => commPts c d fc)
    ∗ (bigSep Finset.univ fun d : Fin 8 => iprop((stageSlot d).view.loc (c : Thread nD τ) ↦[(stageSlot d).view.set]{fullShare} fst))
    ∗ ((Memref.whole cc0_scratch2).view.loc (c : Thread nD τ) ↦{fullShare} fa)
    ∗ ((wSlot0.view.loc (c : Thread nD τ) ↦[wSlot0.view.set]{fullShare} fwf) ∗ (wSlot1.view.loc (c : Thread nD τ) ↦[wSlot1.view.set]{fullShare} fwf)
      ∗ (wSlot2.view.loc (c : Thread nD τ) ↦[wSlot2.view.set]{fullShare} fwf))
    ∗ ((Memref.whole cc0_scratch4).view.loc (c : Thread nD τ) ↦{fullShare} fw8)
    ∗ ((oSlot0.view.loc (c : Thread nD τ) ↦[oSlot0.view.set]{fullShare} fo) ∗ (oSlot1.view.loc (c : Thread nD τ) ↦[oSlot1.view.set]{fullShare} fo)))

/-- The scratch buffers after the run. -/
def scratchEnd (c : Dev nD) : sProp 𝕄 :=
  iprop((bigSep Finset.univ fun d : Fin 8 => iprop(∃ f, (commSlot d).view.loc (c : Thread nD τ) ↦[(commSlot d).view.set]{fullShare} f))
    ∗ (bigSep Finset.univ fun d : Fin 8 => iprop((stageSlot d).view.loc (c : Thread nD τ) ↦[(stageSlot d).view.set]{fullShare} stageC m c))
    ∗ (∃ f, (Memref.whole cc0_scratch2).view.loc (c : Thread nD τ) ↦{fullShare} f)
    ∗ ((∃ f, wSlot0.view.loc (c : Thread nD τ) ↦[wSlot0.view.set]{fullShare} f) ∗ (∃ f, wSlot1.view.loc (c : Thread nD τ) ↦[wSlot1.view.set]{fullShare} f)
      ∗ (∃ f, wSlot2.view.loc (c : Thread nD τ) ↦[wSlot2.view.set]{fullShare} f))
    ∗ (∃ f, (Memref.whole cc0_scratch4).view.loc (c : Thread nD τ) ↦{fullShare} f)
    ∗ ((∃ f, oSlot0.view.loc (c : Thread nD τ) ↦[oSlot0.view.set]{fullShare} f) ∗ (∃ f, oSlot1.view.loc (c : Thread nD τ) ↦[oSlot1.view.set]{fullShare} f)))

/-- The result's panels at contents `f`. -/
def panels (c : Dev nD) (f : Held (F := F) main_v1) : sProp 𝕄 :=
  iprop((panel0.view.loc (c : Thread nD τ) ↦[panel0.view.set]{fullShare} f) ∗ (panel1.view.loc (c : Thread nD τ) ↦[panel1.view.set]{fullShare} f)
    ∗ (panel2.view.loc (c : Thread nD τ) ↦[panel2.view.set]{fullShare} f) ∗ (panel3.view.loc (c : Thread nD τ) ↦[panel3.view.set]{fullShare} f))

/-- The product of the two scales. -/
def scaleOf (sx : Held (F := F) cc0_stg1_0) (sw : Held (F := F) cc0_stg2_0) : F .f32 :=
  k0_pay11 (View.readAt (Elt F) (Memref.whole cc0_stg1_0).view (Rect.unit (s := S1) ![0] S1.size inb_S1_S1_0).toLoadRect sx (Shape.Idx.first (numel1_S1.symm ▸ Nat.one_pos)))
    (View.readAt (Elt F) (Memref.whole cc0_stg2_0).view (Rect.unit (s := S1) ![0] S1.size inb_S1_S1_0).toLoadRect sw (Shape.Idx.first (numel1_S1.symm ▸ Nat.one_pos)))

/-- What the run leaves. -/
def bodyEnd (c : Dev nD) (sx : Held (F := F) cc0_stg1_0) (sw : Held (F := F) cc0_stg2_0) : sProp 𝕄 :=
  iprop((semVal (barCell c) 0 ∗ (bigSep Finset.univ fun d : Fin 8 => semVal (sendCell c d) 0) ∗ (bigSep Finset.univ fun d : Fin 8 => semVal (recvCell c d) 0))
    ∗ copySems c ∗ operands m c sx sw ∗ scratchEnd m c ∗ panels c (outC m (scaleOf sx sw) c) ∗ (∃ W, owes (c : Thread nD τ) 0 W))

set_option maxRecDepth 10000 in
/-- The run of device `c`. -/
theorem body_run (K : Dev nD × Fin 17 → ℕ) (c : Dev nD) (W : Waits sig Unit) (sx : Held (F := F) cc0_stg1_0) (sw : Held (F := F) cc0_stg2_0)
    (fc : Held (F := F) cc0_scratch0) (fst : Held (F := F) cc0_scratch1) (fa : Held (F := F) cc0_scratch2) (fwf : Held (F := F) cc0_scratch3)
    (fw8 : Held (F := F) cc0_scratch4) (fo : Held (F := F) cc0_scratch5) (fy : Held (F := F) main_v1) (Kt : PUnit → sProp 𝕄) :
    iprop(records m K ∗ shareOf c ∗ levAts L lv ∗ copySems c ∗ operands m c sx sw ∗ scratch c fc fst fa fwf fw8 fo ∗ panels c fy
        ∗ owes (c : Thread nD τ) (O₀ c) W ∗ (bodyEnd m c sx sw -∗ Kt ⟨⟩))
      ⊢ wp frame (wpE (defs₀ (F := F)) 𝒱₀ (c : Thread nD τ) none) Set.univ
        (cc0_body (Memref.whole cc0_stg0_0) (Memref.isWhole_whole _) (Memref.whole main_arg1) (Memref.isWhole_whole _)
          (Memref.whole cc0_stg1_0) (Memref.isWhole_whole _) (Memref.whole cc0_stg2_0) (Memref.isWhole_whole _)
          (Memref.whole main_v1) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) cc0_scratch6 cc0_scratch7 cc0_scratch8 cc0_scratch9) Kt := by
  rw [cc0_body_eq_skeleton]; unfold cc0_body_skel
  have hrec := records_open m K c
  have hbar := bar_open (F := F) c
  have hpay := barPays m K c fc
  have hmw := mayWait_bar' (F := F) c
  unfold shareOf copySems operands scratch panels
  simp only [bigSep8] at hrec hbar
  rw [O₀_eq]
  iintro ⟨#HR, ⟨atB, HaS, HaR, HtB, HtS, HtR, crB, HcR⟩, #Hlev, ⟨sw0, sw1, sw2, sw3, so0, so1⟩, ⟨Hx, Hsx, Hsw, Hw⟩,
    ⟨Hcm, Hst, Ha, ⟨Hwf0, Hwf1, Hwf2⟩, Hw8, ⟨Ho0, Ho1⟩⟩, ⟨Hy0, Hy1, Hy2, Hy3⟩, HO, Hk⟩
  ihave Hq := (Entails.of_eq (bigSep8 _)) $$ HaS
  icases Hq with ⟨as0, as1, as2, as3, as4, as5, as6, as7⟩
  ihave Hq := (Entails.of_eq (bigSep8 _)) $$ HaR
  icases Hq with ⟨ar0, ar1, ar2, ar3, ar4, ar5, ar6, ar7⟩
  ihave Hq := (Entails.of_eq (bigSep8 _)) $$ HtB
  icases Hq with ⟨tb0, tb1, tb2, tb3, tb4, tb5, tb6, tb7⟩
  ihave Hq := (Entails.of_eq (bigSep8 _)) $$ HtS
  icases Hq with ⟨ts0, ts1, ts2, ts3, ts4, ts5, ts6, ts7⟩
  ihave Hq := (Entails.of_eq (bigSep8 _)) $$ HtR
  icases Hq with ⟨tr0, tr1, tr2, tr3, tr4, tr5, tr6, tr7⟩
  ihave Hq := (Entails.of_eq (bigSep8 _)) $$ HcR
  icases Hq with ⟨cr0, cr1, cr2, cr3, cr4, cr5, cr6, cr7⟩
  ihave Hq := (Entails.of_eq (bigSep8 _)) $$ Hst
  icases Hq with ⟨Hst0, Hst1, Hst2, Hst3, Hst4, Hst5, Hst6, Hst7⟩
  ihave Hq := hrec $$ HR
  icases Hq with ⟨⟨#Hb0, #Hb1, #Hb2, #Hb3, #Hb4, #Hb5, #Hb6, #Hb7⟩, #Hbc, ⟨#rb0, #rb1, #rb2, #rb3, #rb4, #rb5, #rb6, #rb7⟩, ⟨#Hs0, #Hs1, #Hs2, #Hs3, #Hs4, #Hs5, #Hs6, #Hs7⟩, ⟨#rs0, #rs1, #rs2, #rs3, #rs4, #rs5, #rs6, #rs7⟩, ⟨#Hr0, #Hr1, #Hr2, #Hr3, #Hr4, #Hr5, #Hr6, #Hr7⟩, ⟨#Hq0, #Hq1, #Hq2, #Hq3, #Hq4, #Hq5, #Hq6, #Hq7⟩⟩
  ihave Hq := hpay $$ [Hcm]
  · isplitr; · iexact HR
    iexact Hcm
  ihave Hq := (Entails.of_eq (bigSep8 _)) $$ Hq
  icases Hq with ⟨pb0, pb1, pb2, pb3, pb4, pb5, pb6, pb7⟩
  sl_exec
  have h0 : ∀ i ∈ (stageSlot 0).view.set, body_run.sl.Hst0_w1 m c fst i = stageC m c i := stageStored m c 0 _ (by decide) fst _ _ _
  have h1 : ∀ i ∈ (stageSlot 1).view.set, body_run.sl.Hst1_w2 m c fst i = stageC m c i := stageStored m c 1 _ (by decide) fst _ _ _
  have h2 : ∀ i ∈ (stageSlot 2).view.set, body_run.sl.Hst2_w3 m c fst i = stageC m c i := stageStored m c 2 _ (by decide) fst _ _ _
  have h3 : ∀ i ∈ (stageSlot 3).view.set, body_run.sl.Hst3_w4 m c fst i = stageC m c i := stageStored m c 3 _ (by decide) fst _ _ _
  have h4 : ∀ i ∈ (stageSlot 4).view.set, body_run.sl.Hst4_w5 m c fst i = stageC m c i := stageStored m c 4 _ (by decide) fst _ _ _
  have h5 : ∀ i ∈ (stageSlot 5).view.set, body_run.sl.Hst5_w6 m c fst i = stageC m c i := stageStored m c 5 _ (by decide) fst _ _ _
  have h6 : ∀ i ∈ (stageSlot 6).view.set, body_run.sl.Hst6_w7 m c fst i = stageC m c i := stageStored m c 6 _ (by decide) fst _ _ _
  have h7 : ∀ i ∈ (stageSlot 7).view.set, body_run.sl.Hst7_w8 m c fst i = stageC m c i := stageStored m c 7 _ (by decide) fst _ _ _
  ihave Hst0 := restate (ℓ := (stageSlot 0).view.loc (c : Thread nD τ)) h0 $$ Hst0
  ihave Hst1 := restate (ℓ := (stageSlot 1).view.loc (c : Thread nD τ)) h1 $$ Hst1
  ihave Hst2 := restate (ℓ := (stageSlot 2).view.loc (c : Thread nD τ)) h2 $$ Hst2
  ihave Hst3 := restate (ℓ := (stageSlot 3).view.loc (c : Thread nD τ)) h3 $$ Hst3
  ihave Hst4 := restate (ℓ := (stageSlot 4).view.loc (c : Thread nD τ)) h4 $$ Hst4
  ihave Hst5 := restate (ℓ := (stageSlot 5).view.loc (c : Thread nD τ)) h5 $$ Hst5
  ihave Hst6 := restate (ℓ := (stageSlot 6).view.loc (c : Thread nD τ)) h6 $$ Hst6
  ihave Hst7 := restate (ℓ := (stageSlot 7).view.loc (c : Thread nD τ)) h7 $$ Hst7
  clear h0 h1 h2 h3 h4 h5 h6 h7
  ihave Hq := (Entails.of_eq (bigSep8 _)) $$ atB_pay1
  ihave Hq := hbar $$ Hq
  icases Hq with ⟨⟨⟨%g0, pc0⟩, #rc0⟩, ⟨⟨%g1, pc1⟩, #rc1⟩, ⟨⟨%g2, pc2⟩, #rc2⟩, ⟨⟨%g3, pc3⟩, #rc3⟩, ⟨⟨%g4, pc4⟩, #rc4⟩, ⟨⟨%g5, pc5⟩, #rc5⟩, ⟨⟨%g6, pc6⟩, #rc6⟩, ⟨%g7, pc7⟩, #rc7⟩
  sl_exec
  have ha : body_run.sl.v398 m c ar0_pay1_v ar1_pay1_v ar2_pay1_v ar3_pay1_v ar4_pay1_v ar5_pay1_v ar6_pay1_v ar7_pay1_v = aC m c := aLoad m c (landLoad m c 0 _ _ _ _) (landLoad m c 1 _ _ _ _) (landLoad m c 2 _ _ _ _) (landLoad m c 3 _ _ _ _) (landLoad m c 4 _ _ _ _) (landLoad m c 5 _ _ _ _) (landLoad m c 6 _ _ _ _) (landLoad m c 7 _ _ _ _) _ _ _ _ _ _ _ _ _
  have hw0 : body_run.sl.v399 m c = w8C m c 0 := w8Load m c 0
    (wPiece m c 0 0 0 _ (by decide) _ _ _ _ _) (wPiece m c 0 1 1 _ (by decide) _ _ _ _ _) (wPiece m c 0 2 2 _ (by decide) _ _ _ _ _) (wPiece m c 0 3 0 _ (by decide) _ _ _ _ _) (wPiece m c 0 4 1 _ (by decide) _ _ _ _ _) (wPiece m c 0 5 2 _ (by decide) _ _ _ _ _) (wPiece m c 0 6 0 _ (by decide) _ _ _ _ _) (wPiece m c 0 7 1 _ (by decide) _ _ _ _ _) _ _ _ _ _ _ _ _ _ _
  have hw1 : body_run.sl.v540 m c = w8C m c 1 := w8Load m c 1
    (wPiece m c 1 0 2 _ (by decide) _ _ _ _ _) (wPiece m c 1 1 0 _ (by decide) _ _ _ _ _) (wPiece m c 1 2 1 _ (by decide) _ _ _ _ _) (wPiece m c 1 3 2 _ (by decide) _ _ _ _ _) (wPiece m c 1 4 0 _ (by decide) _ _ _ _ _) (wPiece m c 1 5 1 _ (by decide) _ _ _ _ _) (wPiece m c 1 6 2 _ (by decide) _ _ _ _ _) (wPiece m c 1 7 0 _ (by decide) _ _ _ _ _) _ _ _ _ _ _ _ _ _ _
  have hw2 : body_run.sl.v686 m c = w8C m c 2 := w8Load m c 2
    (wPiece m c 2 0 1 _ (by decide) _ _ _ _ _) (wPiece m c 2 1 2 _ (by decide) _ _ _ _ _) (wPiece m c 2 2 0 _ (by decide) _ _ _ _ _) (wPiece m c 2 3 1 _ (by decide) _ _ _ _ _) (wPiece m c 2 4 2 _ (by decide) _ _ _ _ _) (wPiece m c 2 5 0 _ (by decide) _ _ _ _ _) (wPiece m c 2 6 1 _ (by decide) _ _ _ _ _) (wPiece m c 2 7 2 _ (by decide) _ _ _ _ _) _ _ _ _ _ _ _ _ _ _
  have hw3 : body_run.sl.v817 m c = w8C m c 3 := w8Load m c 3
    (wPiece m c 3 0 0 _ (by decide) _ _ _ _ _) (wPiece m c 3 1 1 _ (by decide) _ _ _ _ _) (wPiece m c 3 2 2 _ (by decide) _ _ _ _ _) (wPiece m c 3 3 0 _ (by decide) _ _ _ _ _) (wPiece m c 3 4 1 _ (by decide) _ _ _ _ _) (wPiece m c 3 5 2 _ (by decide) _ _ _ _ _) (wPiece m c 3 6 0 _ (by decide) _ _ _ _ _) (wPiece m c 3 7 1 _ (by decide) _ _ _ _ _) _ _ _ _ _ _ _ _ _ _
  have hy0 : ∀ i ∈ panel0.view.set, panel0.view.writes (Elt F) fy [⟨Rect.whole S512x2048, body_run.sl.dma7 m c sx sw fo ar0_pay1_v ar1_pay1_v ar2_pay1_v ar3_pay1_v ar4_pay1_v ar5_pay1_v ar6_pay1_v ar7_pay1_v⟩] i = outC m (scaleOf sx sw) c i :=
    panelDone m (scaleOf sx sw) c 0 0 _ (by decide) fy _ _ ha hw0
  have hy1 : ∀ i ∈ panel1.view.set, panel1.view.writes (Elt F) fy [⟨Rect.whole S512x2048, body_run.sl.dma35 m c sx sw fo ar0_pay1_v ar1_pay1_v ar2_pay1_v ar3_pay1_v ar4_pay1_v ar5_pay1_v ar6_pay1_v ar7_pay1_v⟩] i = outC m (scaleOf sx sw) c i :=
    panelDone m (scaleOf sx sw) c 1 1 _ (by decide) fy _ _ ha hw1
  have hy2 : ∀ i ∈ panel2.view.set, panel2.view.writes (Elt F) fy [⟨Rect.whole S512x2048, body_run.sl.dma63 m c sx sw fo ar0_pay1_v ar1_pay1_v ar2_pay1_v ar3_pay1_v ar4_pay1_v ar5_pay1_v ar6_pay1_v ar7_pay1_v⟩] i = outC m (scaleOf sx sw) c i :=
    panelDone m (scaleOf sx sw) c 2 0 _ (by decide) fy _ _ ha hw2
  have hy3 : ∀ i ∈ panel3.view.set, panel3.view.writes (Elt F) fy [⟨Rect.whole S512x2048, body_run.sl.dma91 m c sx sw fo ar0_pay1_v ar1_pay1_v ar2_pay1_v ar3_pay1_v ar4_pay1_v ar5_pay1_v ar6_pay1_v ar7_pay1_v⟩] i = outC m (scaleOf sx sw) c i :=
    panelDone m (scaleOf sx sw) c 3 1 _ (by decide) fy _ _ ha hw3
  ihave Hy0 := restate (ℓ := panel0.view.loc (c : Thread nD τ)) hy0 $$ Hy0
  ihave Hy1 := restate (ℓ := panel1.view.loc (c : Thread nD τ)) hy1 $$ Hy1
  ihave Hy2 := restate (ℓ := panel2.view.loc (c : Thread nD τ)) hy2 $$ Hy2
  ihave Hy3 := restate (ℓ := panel3.view.loc (c : Thread nD τ)) hy3 $$ Hy3
  rw [wp_ret]
  imod (close_all m K c) $$ [atB as0 as1 as2 as3 as4 as5 as6 as7 ar0 ar1 ar2 ar3 ar4 ar5 ar6 ar7] with ⟨z0, z1, z2⟩
  · isplitr; · iexact HR
    isplitl [atB]; · iexact atB
    isplitl [as0 as1 as2 as3 as4 as5 as6 as7]
    · iapply (Entails.of_eq (bigSep8 _).symm)
      isplitl [as0]; · iexact as0
      isplitl [as1]; · iexact as1
      isplitl [as2]; · iexact as2
      isplitl [as3]; · iexact as3
      isplitl [as4]; · iexact as4
      isplitl [as5]; · iexact as5
      isplitl [as6]; · iexact as6
      iexact as7
    iapply (Entails.of_eq (bigSep8 _).symm)
    isplitl [ar0]; · iexact ar0
    isplitl [ar1]; · iexact ar1
    isplitl [ar2]; · iexact ar2
    isplitl [ar3]; · iexact ar3
    isplitl [ar4]; · iexact ar4
    isplitl [ar5]; · iexact ar5
    isplitl [ar6]; · iexact ar6
    iexact ar7
  imodintro
  iapply Hk
  unfold bodyEnd copySems operands scratchEnd panels
  isplitl [z0 z1 z2]
  · isplitl [z0]; · iexact z0
    isplitl [z1]; · iexact z1
    iexact z2
  isplitl [sw0 sw1 sw2 sw3 so0 so1]
  · isplitl [sw0]; · iexact sw0
    isplitl [sw1]; · iexact sw1
    isplitl [sw2]; · iexact sw2
    isplitl [sw3]; · iexact sw3
    isplitl [so0]; · iexact so0
    iexact so1
  isplitl [Hx Hsx Hsw Hw]
  · isplitl [Hx]; · iexact Hx
    isplitl [Hsx]; · iexact Hsx
    isplitl [Hsw]; · iexact Hsw
    iexact Hw
  isplitl [ar0_pay1 ar1_pay1 ar2_pay1 ar3_pay1 ar4_pay1 ar5_pay1 ar6_pay1 ar7_pay1 as0_pay1 as1_pay1 as2_pay1 as3_pay1 as4_pay1 as5_pay1 as6_pay1 as7_pay1 Ha Hwf0 Hwf1 Hwf2 Hw8 Ho0 Ho1]
  · isplitl [ar0_pay1 ar1_pay1 ar2_pay1 ar3_pay1 ar4_pay1 ar5_pay1 ar6_pay1 ar7_pay1]
    · iapply (Entails.of_eq (bigSep8 _).symm)
      isplitl [ar0_pay1]; · iexists _; iexact ar0_pay1
      isplitl [ar1_pay1]; · iexists _; iexact ar1_pay1
      isplitl [ar2_pay1]; · iexists _; iexact ar2_pay1
      isplitl [ar3_pay1]; · iexists _; iexact ar3_pay1
      isplitl [ar4_pay1]; · iexists _; iexact ar4_pay1
      isplitl [ar5_pay1]; · iexists _; iexact ar5_pay1
      isplitl [ar6_pay1]; · iexists _; iexact ar6_pay1
      iexists _; iexact ar7_pay1
    isplitl [as0_pay1 as1_pay1 as2_pay1 as3_pay1 as4_pay1 as5_pay1 as6_pay1 as7_pay1]
    · iapply (Entails.of_eq (bigSep8 _).symm)
      isplitl [as0_pay1]; · iexact as0_pay1
      isplitl [as1_pay1]; · iexact as1_pay1
      isplitl [as2_pay1]; · iexact as2_pay1
      isplitl [as3_pay1]; · iexact as3_pay1
      isplitl [as4_pay1]; · iexact as4_pay1
      isplitl [as5_pay1]; · iexact as5_pay1
      isplitl [as6_pay1]; · iexact as6_pay1
      iexact as7_pay1
    isplitl [Ha]; · iexists _; iexact Ha
    isplitl [Hwf0 Hwf1 Hwf2]
    · isplitl [Hwf0]; · iexists _; iexact Hwf0
      isplitl [Hwf1]; · iexists _; iexact Hwf1
      iexists _; iexact Hwf2
    isplitl [Hw8]; · iexists _; iexact Hw8
    isplitl [Ho0]; · iexists _; iexact Ho0
    iexists _; iexact Ho1
  isplitl [Hy0 Hy1 Hy2 Hy3]
  · isplitl [Hy0]; · iexact Hy0
    isplitl [Hy1]; · iexact Hy1
    isplitl [Hy2]; · iexact Hy2
    iexact Hy3
  iexists _; iexact HO

end Cert.Exchange

end
-- ==== Proof.Cuts.lean ====
/-
# Buffers cut in slots and panels, and joined back

The landing and staging buffers are held slot by slot (eight slots), the weights' buffer by three slots, the output buffer by two,
and the result by four panels of columns. Each whole buffer is the separating conjunction of its parts, and parts held at contents of
their own join to the whole at some contents.
-/
module

public import proofs.«01_k».proof.Proof.Body
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A slot viewed as a matrix covers the slot's rectangle. -/
theorem slot_set (b : Ref sig .tc) (r : Rect b.ty.shape) (hr) {s' : Shape} (hq : r.shape.Squeezes s') :
    (((Memref.whole b).slice r hr).squeeze s' hq).view.set = r.set :=
  (View.set_reshape _ _).trans (View.set_slice_whole b r)

/-- The slots of an eight-slot buffer. -/
abbrev slot8 (d : Fin 8) : Rect S8x512x512 := Rect.unit (s := S8x512x512) ![d.val, 0, 0] S1x512x512.size (slot_inb d)

theorem slot8_disjoint (d e : Fin 8) (h : d ≠ e) : Disjoint (slot8 d).set (slot8 e).set :=
  Ring.lead_disjoint (s := S8x512x512) 0 1 (fun d : Fin 8 => ![d.val, 0, 0]) S1x512x512.size slot_inb (fun b => (Nat.one_mul _).symm) rfl d e h
theorem slot8_cover : Finset.univ.biUnion (fun d => (slot8 d).set) = Finset.univ :=
  Ring.lead_cover (s := S8x512x512) 0 1 (fun d : Fin 8 => ![d.val, 0, 0]) S1x512x512.size slot_inb (fun b => (Nat.one_mul _).symm)
    (fun b a ha => by fin_cases a; exacts [absurd rfl ha, rfl, rfl]) rfl (fun a ha => by fin_cases a; exacts [absurd rfl ha, rfl, rfl]) rfl

theorem comm_set (d : Fin 8) : (commSlot d).view.set = (slot8 d).set := slot_set cc0_scratch0 (slot8 d) (fun _ => rfl) squeezes_S1x512x512_S512x512
theorem stage_set (d : Fin 8) : (stageSlot d).view.set = (slot8 d).set := slot_set cc0_scratch1 (slot8 d) (fun _ => rfl) squeezes_S1x512x512_S512x512

omit [FloatOps F] in
/-- The landing buffer is its eight slots. -/
theorem comm_cut (c : Dev nD) (f : Held (F := F) cc0_scratch0) :
    (((c : Thread nD τ).loc cc0_scratch0 ↦{fullShare} f) : sProp 𝕄) = bigSep Finset.univ fun d : Fin 8 => commPts c d f := by
  refine (Ring.pointsTo_blocks (ℓ := (c : Thread nD τ).loc cc0_scratch0) (fun d : Fin 8 => (slot8 d).set) slot8_disjoint slot8_cover f).trans ?_
  exact bigSep_congr fun d _ => by unfold commPts; rw [comm_set d]; rfl

omit [FloatOps F] in
/-- The landing slots, at contents of their own, are the landing buffer at some contents. -/
theorem comm_join (c : Dev nD) (f₀ : Held (F := F) cc0_scratch0) :
    (bigSep Finset.univ fun d : Fin 8 => iprop(∃ f, (commSlot d).view.loc (c : Thread nD τ) ↦[(commSlot d).view.set]{fullShare} f))
      ⊢ (iprop(∃ f : Held (F := F) cc0_scratch0, (c : Thread nD τ).loc cc0_scratch0 ↦{fullShare} f) : sProp 𝕄) := by
  refine BIBase.Entails.trans (Entails.of_eq (bigSep_congr fun d _ => ?_))
    (Ring.pointsTo_blocks_join_exists (ℓ := (c : Thread nD τ).loc cc0_scratch0) (fun d : Fin 8 => (slot8 d).set) slot8_disjoint slot8_cover f₀)
  rw [comm_set d]; rfl

omit [FloatOps F] in
/-- The staging buffer is its eight slots. -/
theorem stage_cut (c : Dev nD) (f : Held (F := F) cc0_scratch1) :
    (((c : Thread nD τ).loc cc0_scratch1 ↦{fullShare} f) : sProp 𝕄)
      = bigSep Finset.univ fun d : Fin 8 => iprop((stageSlot d).view.loc (c : Thread nD τ) ↦[(stageSlot d).view.set]{fullShare} f) := by
  refine (Ring.pointsTo_blocks (ℓ := (c : Thread nD τ).loc cc0_scratch1) (fun d : Fin 8 => (slot8 d).set) slot8_disjoint slot8_cover f).trans ?_
  exact bigSep_congr fun d _ => by rw [stage_set d]; rfl

/-- The slots of the weights' buffer. -/
theorem wslot_inb (t : Fin 3) (a : Fin 3) : (![t.val, 0, 0] : Fin 3 → Nat) a + S1x512x2048.size a ≤ S3x512x2048.size a := by revert t a; decide
abbrev slot3 (t : Fin 3) : Rect S3x512x2048 := Rect.unit (s := S3x512x2048) ![t.val, 0, 0] S1x512x2048.size (wslot_inb t)
theorem slot3_disjoint (d e : Fin 3) (h : d ≠ e) : Disjoint (slot3 d).set (slot3 e).set :=
  Ring.lead_disjoint (s := S3x512x2048) 0 1 (fun d : Fin 3 => ![d.val, 0, 0]) S1x512x2048.size wslot_inb (fun b => (Nat.one_mul _).symm) rfl d e h
theorem slot3_cover : Finset.univ.biUnion (fun d => (slot3 d).set) = Finset.univ :=
  Ring.lead_cover (s := S3x512x2048) 0 1 (fun d : Fin 3 => ![d.val, 0, 0]) S1x512x2048.size wslot_inb (fun b => (Nat.one_mul _).symm)
    (fun b a ha => by fin_cases a; exacts [absurd rfl ha, rfl, rfl]) rfl (fun a ha => by fin_cases a; exacts [absurd rfl ha, rfl, rfl]) rfl
theorem wslot0_set : wSlot0.view.set = (slot3 0).set := slot_set cc0_scratch3 (slot3 0) (fun _ => rfl) squeezes_S1x512x2048_S512x2048
theorem wslot1_set : wSlot1.view.set = (slot3 1).set := slot_set cc0_scratch3 (slot3 1) (fun _ => rfl) squeezes_S1x512x2048_S512x2048
theorem wslot2_set : wSlot2.view.set = (slot3 2).set := slot_set cc0_scratch3 (slot3 2) (fun _ => rfl) squeezes_S1x512x2048_S512x2048

omit [FloatOps F] in
/-- A family over three, one by one. -/
theorem bigSep3 (Φ : Fin 3 → sProp 𝕄) : bigSep Finset.univ Φ = iprop(Φ 0 ∗ Φ 1 ∗ Φ 2) := bigSep_univ_eq_bigSepL [0, 1, 2] (by decide) (by decide) Φ
omit [FloatOps F] in
/-- A family over two, one by one. -/
theorem bigSep2 (Φ : Fin 2 → sProp 𝕄) : bigSep Finset.univ Φ = iprop(Φ 0 ∗ Φ 1) := bigSep_univ_eq_bigSepL [0, 1] (by decide) (by decide) Φ
omit [FloatOps F] in
/-- A family over four, one by one. -/
theorem bigSep4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The weights' buffer is its three slots. -/
theorem wf_cut (c : Dev nD) (f : Held (F := F) cc0_scratch3) :
    (((c : Thread nD τ).loc cc0_scratch3 ↦{fullShare} f) : sProp 𝕄)
      = iprop((wSlot0.view.loc (c : Thread nD τ) ↦[wSlot0.view.set]{fullShare} f) ∗ (wSlot1.view.loc (c : Thread nD τ) ↦[wSlot1.view.set]{fullShare} f)
        ∗ (wSlot2.view.loc (c : Thread nD τ) ↦[wSlot2.view.set]{fullShare} f)) := by
  refine (Ring.pointsTo_blocks (ℓ := (c : Thread nD τ).loc cc0_scratch3) (fun d : Fin 3 => (slot3 d).set) slot3_disjoint slot3_cover f).trans ?_
  rw [bigSep3, wslot0_set, wslot1_set, wslot2_set]

omit [FloatOps F] in
/-- Its slots, at contents of their own, are the buffer at some contents. -/
theorem wf_join (c : Dev nD) (f₀ : Held (F := F) cc0_scratch3) :
    iprop((∃ f, wSlot0.view.loc (c : Thread nD τ) ↦[wSlot0.view.set]{fullShare} f) ∗ (∃ f, wSlot1.view.loc (c : Thread nD τ) ↦[wSlot1.view.set]{fullShare} f)
        ∗ (∃ f, wSlot2.view.loc (c : Thread nD τ) ↦[wSlot2.view.set]{fullShare} f))
      ⊢ (iprop(∃ f : Held (F := F) cc0_scratch3, (c : Thread nD τ).loc cc0_scratch3 ↦{fullShare} f) : sProp 𝕄) := by
  refine BIBase.Entails.trans (Entails.of_eq ?_)
    (Ring.pointsTo_blocks_join_exists (ℓ := (c : Thread nD τ).loc cc0_scratch3) (fun d : Fin 3 => (slot3 d).set) slot3_disjoint slot3_cover f₀)
  rw [bigSep3, wslot0_set, wslot1_set, wslot2_set]

/-- The slots of the output buffer. -/
theorem oslot_inb (t : Fin 2) (a : Fin 3) : (![t.val, 0, 0] : Fin 3 → Nat) a + S1x512x2048.size a ≤ S2x512x2048.size a := by revert t a; decide
abbrev slot2 (t : Fin 2) : Rect S2x512x2048 := Rect.unit (s := S2x512x2048) ![t.val, 0, 0] S1x512x2048.size (oslot_inb t)
theorem slot2_disjoint (d e : Fin 2) (h : d ≠ e) : Disjoint (slot2 d).set (slot2 e).set :=
  Ring.lead_disjoint (s := S2x512x2048) 0 1 (fun d : Fin 2 => ![d.val, 0, 0]) S1x512x2048.size oslot_inb (fun b => (Nat.one_mul _).symm) rfl d e h
theorem slot2_cover : Finset.univ.biUnion (fun d => (slot2 d).set) = Finset.univ :=
  Ring.lead_cover (s := S2x512x2048) 0 1 (fun d : Fin 2 => ![d.val, 0, 0]) S1x512x2048.size oslot_inb (fun b => (Nat.one_mul _).symm)
    (fun b a ha => by fin_cases a; exacts [absurd rfl ha, rfl, rfl]) rfl (fun a ha => by fin_cases a; exacts [absurd rfl ha, rfl, rfl]) rfl
theorem oslot0_set : oSlot0.view.set = (slot2 0).set := slot_set cc0_scratch5 (slot2 0) (fun _ => rfl) squeezes_S1x512x2048_S512x2048
theorem oslot1_set : oSlot1.view.set = (slot2 1).set := slot_set cc0_scratch5 (slot2 1) (fun _ => rfl) squeezes_S1x512x2048_S512x2048

omit [FloatOps F] in
/-- The output buffer is its two slots. -/
theorem o_cut (c : Dev nD) (f : Held (F := F) cc0_scratch5) :
    (((c : Thread nD τ).loc cc0_scratch5 ↦{fullShare} f) : sProp 𝕄)
      = iprop((oSlot0.view.loc (c : Thread nD τ) ↦[oSlot0.view.set]{fullShare} f) ∗ (oSlot1.view.loc (c : Thread nD τ) ↦[oSlot1.view.set]{fullShare} f)) := by
  refine (Ring.pointsTo_blocks (ℓ := (c : Thread nD τ).loc cc0_scratch5) (fun d : Fin 2 => (slot2 d).set) slot2_disjoint slot2_cover f).trans ?_
  rw [bigSep2, oslot0_set, oslot1_set]

omit [FloatOps F] in
/-- Its slots, at contents of their own, are the buffer at some contents. -/
theorem o_join (c : Dev nD) (f₀ : Held (F := F) cc0_scratch5) :
    iprop((∃ f, oSlot0.view.loc (c : Thread nD τ) ↦[oSlot0.view.set]{fullShare} f) ∗ (∃ f, oSlot1.view.loc (c : Thread nD τ) ↦[oSlot1.view.set]{fullShare} f))
      ⊢ (iprop(∃ f : Held (F := F) cc0_scratch5, (c : Thread nD τ).loc cc0_scratch5 ↦{fullShare} f) : sProp 𝕄) := by
  refine BIBase.Entails.trans (Entails.of_eq ?_)
    (Ring.pointsTo_blocks_join_exists (ℓ := (c : Thread nD τ).loc cc0_scratch5) (fun d : Fin 2 => (slot2 d).set) slot2_disjoint slot2_cover f₀)
  rw [bigSep2, oslot0_set, oslot1_set]

/-- The panels of the result. -/
theorem panel_inb (p : Fin 4) (a : Fin 2) : (![0, 2048 * p.val] : Fin 2 → Nat) a + S512x2048.size a ≤ S512x8192.size a := by revert p a; decide
abbrev panelR (p : Fin 4) : Rect S512x8192 := Rect.unit (s := S512x8192) ![0, 2048 * p.val] S512x2048.size (panel_inb p)
theorem panelR_disjoint (d e : Fin 4) (h : d ≠ e) : Disjoint (panelR d).set (panelR e).set :=
  Ring.lead_disjoint (s := S512x8192) 1 2048 (fun d : Fin 4 => ![0, 2048 * d.val]) S512x2048.size panel_inb (fun b => rfl) rfl d e h
theorem panelR_cover : Finset.univ.biUnion (fun d => (panelR d).set) = Finset.univ :=
  Ring.lead_cover (s := S512x8192) 1 2048 (fun d : Fin 4 => ![0, 2048 * d.val]) S512x2048.size panel_inb (fun b => rfl)
    (fun b a ha => by fin_cases a; exacts [rfl, absurd rfl ha]) rfl (fun a ha => by fin_cases a; exacts [rfl, absurd rfl ha]) rfl
theorem panel0_set : panel0.view.set = (panelR 0).set := View.set_slice_whole main_v1 (panelR 0)
theorem panel1_set : panel1.view.set = (panelR 1).set := View.set_slice_whole main_v1 (panelR 1)
theorem panel2_set : panel2.view.set = (panelR 2).set := View.set_slice_whole main_v1 (panelR 2)
theorem panel3_set : panel3.view.set = (panelR 3).set := View.set_slice_whole main_v1 (panelR 3)

omit [FloatOps F] in
/-- The result is its four panels. -/
theorem y_cut (c : Dev nD) (f : Held (F := F) main_v1) : (((c : Thread nD τ).loc main_v1 ↦{fullShare} f) : sProp 𝕄) = panels c f := by
  refine (Ring.pointsTo_blocks (ℓ := (c : Thread nD τ).loc main_v1) (fun d : Fin 4 => (panelR d).set) panelR_disjoint panelR_cover f).trans ?_
  unfold panels
  rw [bigSep4, panel0_set, panel1_set, panel2_set, panel3_set]

end Cert.Exchange

end
-- ==== Proof.Deal.lean ====
/-
# The launch deals the exchange

The launch mints every cell's round state, positions and duty tokens. Every device's semaphores together with those become the cells'
invariants, which all devices share; the tokens go to the devices that pay them; the credits for what the others owe a device's cells
go to that device.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ)

/-! ## The semaphores the body uses -/

/-- The body's own semaphores by number: eight for the sends, eight for the arrivals, four for the weights' copies, two for the result's. -/
abbrev osem (k : Fin 22) : SemLoc sig := .dma ⟨k.val + 3, by have := k.isLt; show k.val + 3 < 25; omega⟩

theorem ownSemFacts : Pipeline.OwnSemFacts cfg0.spec osem := by decide

/-- Separating conjunctions regroup. -/
theorem sep_regroup {M : Type _} [RA M] (P Q R : sProp M) : iprop((P ∗ Q) ∗ R) = iprop(P ∗ Q ∗ R) := equiv_iff.mp ⟨BI.sep_assoc, BI.sep_assoc'⟩

omit [FloatOps F] in
/-- A family over the exchange's cells of a device: its barrier's, its send cells', its receive cells'. -/
theorem fam17 (Φ : Fin 17 → sProp 𝕄) : bigSep Finset.univ Φ
    = iprop(Φ 0 ∗ (bigSep Finset.univ fun d : Fin 8 => Φ (sIx d)) ∗ (bigSep Finset.univ fun d : Fin 8 => Φ (rIx d))) := by
  rw [bigSep_univ_eq_bigSepL [0, 1, 2, 3, 4, 5, 6, 7, 8, 9, 10, 11, 12, 13, 14, 15, 16] (by decide) (by decide), bigSep8, bigSep8]
  simp only [sep_regroup]
  rfl

omit [FloatOps F] in
/-- The body's own semaphores at zero: the send cells', the receive cells', those of its local copies. -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ (bigSep Finset.univ fun d : Fin 8 => semVal (recvCell c d) 0) ∗ copySems c) := by
  rw [Pipeline.ownSems0_eq_of_list c osem [0, 1, 2, 3, 4, 5, 6, 7, 8, 9, 10, 11, 12, 13, 14, 15, 16, 17, 18, 19, 20, 21] (by decide) (by decide), bigSep8, bigSep8]
  unfold copySems
  simp only [sep_regroup]
  rfl

omit [FloatOps F] in
/-- The one semaphore that outlives the launch is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## What the launch mints -/

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The exchange's cells. -/
def ringCells : Finset (GSem nD τ sig) := Finset.univ.map ⟨kcell, kcell_injective⟩

/-- A duty by device, sort of cell and number: the barrier cell's eight, the send cells' one each, the receive cells' one each. -/
def tokOf (x : Dev nD × Fin 3 × Fin 8) : GSem nD τ sig × ℕ × Fin 8 := match x with
  | (c, 0, d) => (barCell c, 0, d) | (c, 1, d) => (sendCell c d, 0, 0) | (c, 2, d) => (recvCell c d, 0, 0)
/-- The sort and number of a duty `d` of a cell of kind `k`. -/
def dutyOf (k : Kind) (d : Fin 8) : Fin 3 × Fin 8 := match k with
  | .bar => (0, d) | .send e => (1, e) | .recv e => (2, e) | .other => (0, 0)
/-- The device, sort and number of a duty. -/
def tokInv (y : GSem nD τ sig × ℕ × Fin 8) : Dev nD × Fin 3 × Fin 8 := (y.1.1.1, dutyOf (kindOf y.1.2) y.2.2)
theorem tokInv_tokOf : Function.LeftInverse tokInv tokOf
  | (c, 0, d) => by show (c, dutyOf (kindOf (SemLoc.reg barS)) d) = _; rw [kind_bar]; rfl
  | (c, 1, d) => by show (c, dutyOf (kindOf (SemLoc.dma (sendQ d))) 0) = _; rw [kind_send]; rfl
  | (c, 2, d) => by show (c, dutyOf (kindOf (SemLoc.dma (recvQ d))) 0) = _; rw [kind_recv]; rfl
/-- The exchange's duty tokens. -/
def ringToks : Finset (GSem nD τ sig × ℕ × Fin 8) := Finset.univ.map ⟨tokOf, tokInv_tokOf.injective⟩

/-- The launch element: the staging's rounds, the exchange's, no local transfer counted. -/
def u₀ : UU := (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun d : Fin 8 => dutyTok ER (barCell c) 0 d) ∗ (bigSep Finset.univ fun d : Fin 8 => dutyTok ER (sendCell c d) 0 (0 : Fin 8))
    ∗ (bigSep Finset.univ fun d : Fin 8 => dutyTok ER (recvCell c d) 0 (0 : Fin 8)))
/-- The tokens of the duties device `c` pays. -/
def payToks (c : Dev nD) : sProp 𝕄 :=
  iprop((bigSep Finset.univ fun d : Fin 8 => dutyTok ER (barCell d) 0 (c : Fin 8)) ∗ (bigSep Finset.univ fun d : Fin 8 => dutyTok ER (sendCell c d) 0 (0 : Fin 8))
    ∗ (bigSep Finset.univ fun d : Fin 8 => dutyTok ER (recvCell d c) 0 (0 : Fin 8)))

/-- What the launch element deals device `c`. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)

/-- Device `c`'s own part of the exchange: its positions, the tokens it pays with, its copies' semaphores. -/
def linear (c : Dev nD) : sProp 𝕄 :=
  iprop((atPos ER (barCell c) 0 ∅ 0 ∗ (bigSep Finset.univ fun d : Fin 8 => atPos ER (sendCell c d) 0 ∅ 0)
    ∗ (bigSep Finset.univ fun d : Fin 8 => atPos ER (recvCell c d) 0 ∅ 0)) ∗ payToks c ∗ copySems c)

/-- What the global step makes for device `c`: everyone's records and its own part. -/
def G' (c : Dev nD) : sProp 𝕄 := iprop(∃ K, records m K ∗ linear c)

omit [FloatOps F] in
theorem bigSep3' (Φ : Fin 3 → sProp 𝕄) : bigSep Finset.univ Φ = iprop(Φ 0 ∗ Φ 1 ∗ Φ 2) := bigSep_univ_eq_bigSepL [0, 1, 2] (by decide) (by decide) Φ

/-- The exchange's part of the launch element, dealt by device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep3']; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
/-- Device `c`'s semaphores at zero: the cells' and the copies'. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 17 => semVal (kcell (c, k)) 0) ∗ copySems c) : sProp 𝕄) := by
  rw [ownSems0_eq, unscopedSems0_eq, fam17]
  simp only [kcell_send, kcell_recv]
  iintro ⟨⟨HS, HV, HC⟩, HB⟩
  isplitl [HB HS HV]
  · isplitl [HB]; · iexact HB
    isplitl [HS] <;> iassumption
  iexact HC

/-- Device `c`'s cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ copySems c) := by
  unfold G
  iintro ⟨Hos, Hus, Hst, Hat, Htok⟩
  ihave Hv := (sems0_eq (F := F) c) $$ [Hos Hus]
  · isplitl [Hos] <;> iassumption
  icases Hv with ⟨Hv, HC⟩
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- A family over pairs of devices is the same either way round. -/
theorem swap_pairs (Φ : Fin 8 → Fin 8 → sProp 𝕄) : (bigSep Finset.univ fun c => bigSep Finset.univ fun d => Φ c d)
    = bigSep Finset.univ fun c => bigSep Finset.univ fun d => Φ d c := by
  rw [← bigSep_univ_prod (fun x : Fin 8 × Fin 8 => Φ x.1 x.2), ← bigSep_univ_prod (fun x : Fin 8 × Fin 8 => Φ x.2 x.1),
    bigSep_univ_equiv (Equiv.prodComm (Fin 8) (Fin 8)) (fun x : Fin 8 × Fin 8 => Φ x.2 x.1)]
  rfl

omit [FloatOps F] in
/-- Every duty's token goes to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    swap_pairs (fun (c : Dev nD) (d : Fin 8) => (dutyTok ER (barCell c) 0 d : sProp 𝕄)),
    swap_pairs (fun (c : Dev nD) (d : Fin 8) => (dutyTok ER (recvCell c d) 0 (0 : Fin 8) : sProp 𝕄))]

omit [FloatOps F] in
/-- A persistent proposition is given to every member of a family. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all cells, named once for all, and every device's own part. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (G' m) := by
  rw [bigSep_sep', bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, HC⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (give_all (R := records m K) (Φ := linear) fun c _ => show iprop(records m K ∗ linear c) ⊢ G' m c from by
    unfold G'; iintro H; iexists K; iexact H)
  isplitr
  · unfold records; isplitl; · iexact HI
    iexact HR
  · unfold linear
    rw [bigSep_sep']
    isplitl [Hat]
    · iapply (show (bigSep Finset.univ fun c : Dev nD => bigSep Finset.univ fun k : Fin 17 => (atPos ER (kcell (c, k)) 0 ∅ 0 : sProp 𝕄))
        ⊢ bigSep Finset.univ fun c : Dev nD => iprop(atPos ER (barCell c) 0 ∅ 0 ∗ (bigSep Finset.univ fun d : Fin 8 => atPos ER (sendCell c d) 0 ∅ 0)
          ∗ (bigSep Finset.univ fun d : Fin 8 => atPos ER (recvCell c d) 0 ∅ 0)) from bigSep_mono fun c _ => by
            rw [fam17]; simp only [kcell_send, kcell_recv]; exact BI.Entails.refl _) $$ Hat
    rw [bigSep_sep']
    isplitl [Htk] <;> iassumption

/-- The global step: every device's semaphores and dealings at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits for what is owed at launch -/

theorem barCell_inj {a b : Dev nD} (h : barCell a = barCell b) : a = b := congrArg (fun g : GSem nD τ sig => g.1.1) h
theorem recvCell_inj {a b s t : Dev nD} (h : recvCell a s = recvCell b t) : a = b ∧ s = t :=
  ⟨congrArg (fun g : GSem nD τ sig => g.1.1) h, by
    have := congrArg (fun g : GSem nD τ sig => kindOf g.2) h
    dsimp only at this
    rw [kind_recv, kind_recv] at this
    exact Kind.recv.inj this⟩
theorem recv_ne_bar {s : Dev nD} : SemLoc.dma (recvQ s) ≠ SemLoc.reg barS := fun h => by cases h

/-- Every device owes every barrier cell a unit. -/
theorem owed_bar (d c : Dev nD) : O₀ d (barCell c) () = 1 := by
  unfold O₀ owedRecv owedBar
  rw [Pi.add_apply, Finsupp.add_apply, Finset.sum_apply, Finsupp.finsetSum_apply, Finset.sum_apply, Finsupp.finsetSum_apply,
    Finset.sum_eq_zero fun e _ => by rw [tallyAt_apply, if_neg fun h => recv_ne_bar (congrArg Prod.snd h.1).symm], Nat.zero_add,
    Finset.sum_eq_single c (fun e _ he => by rw [tallyAt_apply, if_neg fun h => he (barCell_inj h.1).symm]) (fun h => absurd (Finset.mem_univ c) h),
    tallyAt_apply, if_pos ⟨rfl, rfl⟩]

/-- Device `s` alone owes the receive cell `s` of a device. -/
theorem owed_recv (d c s : Dev nD) : O₀ d (recvCell c s) () = if d = s then N else 0 := by
  unfold O₀ owedRecv owedBar
  rw [Pi.add_apply, Finsupp.add_apply, Finset.sum_apply, Finsupp.finsetSum_apply, Finset.sum_apply, Finsupp.finsetSum_apply,
    Finset.sum_eq_zero (s := Finset.univ) (f := fun e : Fin 8 => (tallyAt (barCell e) () 1 : CellTallies nD τ sig Unit) (recvCell c s) ()) fun e _ => by
      rw [tallyAt_apply, if_neg fun h => recv_ne_bar (congrArg Prod.snd h.1)], Nat.add_zero]
  by_cases h : d = s
  · subst h
    rw [if_pos rfl, Finset.sum_eq_single c (fun e _ he => by rw [tallyAt_apply, if_neg fun h => he (recvCell_inj h.1).1.symm]) (fun h => absurd (Finset.mem_univ c) h),
      tallyAt_apply, if_pos ⟨rfl, rfl⟩]
  · rw [if_neg h]
    exact Finset.sum_eq_zero fun e _ => by rw [tallyAt_apply, if_neg fun h' => h (recvCell_inj h'.1).2.symm]

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c]; rfl

theorem launch_recv (c s : Dev nD) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ s fun _ => N,
    if_pos (Finset.mem_univ _)]

theorem recvLoc_injective : Function.Injective fun s : Fin 8 => (SemLoc.dma (recvQ s) : SemLoc sig) := by decide

omit [FloatOps F] in
/-- The credits device `c` starts with: eight units on its barrier cell, a block's units on each of its receive cells. -/
theorem creds (c : Dev nD) :
    (Pipeline.launchCred O₀ c : sProp 𝕄) ⊢ iprop(cred (tallyAt (barCell c) () 8) ∗ bigSep Finset.univ fun d : Fin 8 => cred (tallyAt (recvCell c d) () N)) := by
  unfold Pipeline.launchCred
  rw [bigSep_univ_at _ (SemLoc.reg barS), launch_bar]
  refine sep_mono_right ?_
  have hsub : Finset.univ.map ⟨fun s : Fin 8 => (SemLoc.dma (recvQ s) : SemLoc sig), recvLoc_injective⟩ ⊆ Finset.univ.erase (SemLoc.reg barS) := fun x hx => by
    obtain ⟨s, _, rfl⟩ := Finset.mem_map.mp hx
    exact Finset.mem_erase.mpr ⟨recv_ne_bar, Finset.mem_univ _⟩
  refine (bigSep_subset hsub).trans ?_
  rw [bigSep_map]
  exact bigSep_mono fun s _ => Entails.of_eq (congrArg cred (launch_recv c s))

end Cert.Exchange

end
-- ==== Proof.Launch.lean ====
/-
# The run of the kernel on eight devices

The launch around the body: what each device's one grid point holds before and after it, the body's obligation out of `body_run`, and the
run from any memory at any float values. It ends with every device's result array at `outC`, its operands unchanged and every semaphore
at zero.
-/
module

public import proofs.«01_k».proof.Proof.Cuts
public import proofs.«01_k».proof.Proof.Deal

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat owesWithin)

variable {F : FTy → Type} [FloatOps F]

local notation "𝕄" => MT nD τ sig Unit (Elt F) ℕ UU ℕ
variable (m : (ℓ : Loc nD τ sig) → Buf (Elt F) ℓ) (ρ : Dev nD → PrngReg)

/-- The activations' scale as the device finds it. -/
def sxOf (c : Dev nD) : Held (F := F) cc0_stg1_0 := (win0_1.blk (0 : Fin 1)).view.read (Elt F) (m ((c : Thread nD τ).loc main_arg2))
/-- The weights' scale as the device finds it. -/
def swOf (c : Dev nD) : Held (F := F) cc0_stg2_0 := (win0_2.blk (0 : Fin 1)).view.read (Elt F) (m ((c : Thread nD τ).loc main_arg3))
/-- The result of device `c`. -/
def resultC (c : Dev nD) : Held (F := F) main_v1 := outC m (scaleOf (sxOf m c) (swOf m c)) c

/-- The initial state: memory `m`, every counter zero. -/
abbrev s₀ : MemSt nD τ sig (Elt F) := ⟨m, fun _ => 0, ρ⟩

/-! ## The one grid point -/

/-- The weights. -/
def wPts (c : Dev nD) : sProp 𝕄 := iprop((c : Thread nD τ).loc main_arg1 ↦{fullShare} m ((c : Thread nD τ).loc main_arg1))
/-- The result array at contents `f`. -/
def yPts (c : Dev nD) (f : Held (F := F) main_v1) : sProp 𝕄 := iprop((c : Thread nD τ).loc main_v1 ↦{fullShare} f)

/-- What device `c` starts with beside its scratch: the exchange's share, the levels, the weights, the result array. -/
def start (c : Dev nD) : sProp 𝕄 :=
  iprop(G' m c ∗ (cred (tallyAt (barCell c) () 8) ∗ bigSep Finset.univ fun d : Fin 8 => cred (tallyAt (recvCell c d) () N)) ∗ levAts L lv
    ∗ wPts m c ∗ yPts c (m ((c : Thread nD τ).loc main_v1)))
/-- Before the point. -/
def Φ₀ (c : Dev nD) : sProp 𝕄 := iprop(start m c ∗ Pipeline.scopedRest cfg0.spec c)
/-- After the point: every semaphore at zero, the weights as they were, the result. -/
def Φ₁ (c : Dev nD) : sProp 𝕄 :=
  iprop((semVal (barCell c) 0 ∗ (bigSep Finset.univ fun d : Fin 8 => semVal (sendCell c d) 0) ∗ (bigSep Finset.univ fun d : Fin 8 => semVal (recvCell c d) 0))
    ∗ copySems c ∗ wPts m c ∗ yPts c (resultC m c) ∗ Pipeline.scopedRest cfg0.spec c)

/-- The launch's data: the operands staged are those of the memory, the resources around the point, what is owed at its ends. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => sxOf m c
    | ⟨2, _⟩ => swOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A whole buffer owned at `X` is its points-to at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- After the body. -/
def bodyPost (c : Dev nD) : sProp 𝕄 :=
  iprop(Φ₁ m c ∗ (dats m ρ 0 c).owesAt () t0_0.succ ∗ stg c cc0_stg0_0 (xstg m c) ∗ stg c cc0_stg1_0 (sxOf m c) ∗ stg c cc0_stg2_0 (swOf m c))

/-- What the staging copies bring is the operand's block. -/
theorem before_0 (c : Dev nD) (d) : (dats m ρ 0 c).before (0 : Fin 3) t0_0 d = xstg m c := by unfold Dat.before; rw [if_pos (show (cfg0.win (0 : Fin 3)).fetch t0_0 = true from rfl)]; rfl
theorem before_1 (c : Dev nD) (d) : (dats m ρ 0 c).before (1 : Fin 3) t0_0 d = sxOf m c := by unfold Dat.before; rw [if_pos (show (cfg0.win (1 : Fin 3)).fetch t0_0 = true from rfl)]; rfl
theorem before_2 (c : Dev nD) (d) : (dats m ρ 0 c).before (2 : Fin 3) t0_0 d = swOf m c := by unfold Dat.before; rw [if_pos (show (cfg0.win (2 : Fin 3)).fetch t0_0 = true from rfl)]; rfl

/-- The scratch buffers cut for the run. -/
theorem scratch_cut (c : Dev nD) : (Pipeline.scopedRest cfg0.spec c : sProp 𝕄) ⊢ iprop(∃ fc fst fa fwf fw8 fo, scratch (F := F) c fc fst fa fwf fw8 fo) := by
  rw [show (Pipeline.scopedRest cfg0.spec c : sProp 𝕄) = _ from scopedRest0_eq c]
  iintro ⟨⟨%fc, H0⟩, ⟨%fs, H1⟩, ⟨%fa, H2⟩, ⟨%fw, H3⟩, ⟨%fw8, H4⟩, ⟨%fo, H5⟩⟩
  iexists fc; iexists fs; iexists fa; iexists fw; iexists fw8; iexists fo
  unfold scratch
  ihave H0 := (Entails.of_eq (comm_cut c fc)) $$ H0
  ihave H1 := (Entails.of_eq (stage_cut c fs)) $$ H1
  ihave H3 := (Entails.of_eq (wf_cut c fw)) $$ H3
  ihave H5 := (Entails.of_eq (o_cut c fo)) $$ H5
  isplitl [H0]; · iexact H0
  isplitl [H1]; · iexact H1
  isplitl [H2]; · iexact H2
  isplitl [H3]; · iexact H3
  isplitl [H4]; · iexact H4
  iexact H5

/-- The scratch buffers whole again after the run. -/
theorem scratch_join (c : Dev nD) (fc : Held (F := F) cc0_scratch0) (fwf : Held (F := F) cc0_scratch3) (fo : Held (F := F) cc0_scratch5) :
    scratchEnd m c ⊢ (Pipeline.scopedRest cfg0.spec c : sProp 𝕄) := by
  rw [show (Pipeline.scopedRest cfg0.spec c : sProp 𝕄) = _ from scopedRest0_eq c]
  unfold scratchEnd
  iintro ⟨H0, H1, ⟨%fa, H2⟩, H3, ⟨%fw8, H4⟩, H5⟩
  ihave H0 := (comm_join c fc) $$ H0
  ihave H1 := (Entails.of_eq (stage_cut c (stageC m c)).symm) $$ H1
  ihave H3 := (wf_join c fwf) $$ H3
  ihave H5 := (o_join c fo) $$ H5
  isplitl [H0]; · iexact H0
  isplitl [H1]; · iexists (stageC m c); iexact H1
  isplitl [H2]; · iexists fa; iexact H2
  isplitl [H3]; · iexact H3
  isplitl [H4]; · iexists fw8; iexact H4
  iexact H5

set_option maxRecDepth 10000 in
/-- The body, from what the point holds before it to what it holds after. -/
theorem sound_body (c : Dev nD) :
    bodyPre m ρ c ⊢ wp frame (wpE (defs₀ (F := F)) 𝒱₀ (c : Thread nD τ) none) Set.univ
        (cc0_body (Memref.whole cc0_stg0_0) (Memref.isWhole_whole _) (Memref.whole main_arg1) (Memref.isWhole_whole _)
          (Memref.whole cc0_stg1_0) (Memref.isWhole_whole _) (Memref.whole cc0_stg2_0) (Memref.isWhole_whole _)
          (Memref.whole main_v1) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) cc0_scratch6 cc0_scratch7 cc0_scratch8 cc0_scratch9) (fun _ => bodyPost m ρ c) := by
  unfold bodyPre Φ₀ start G' linear payToks
  iintro ⟨⟨⟨⟨%K, #HR, ⟨HaB, HaS, HaV⟩, ⟨HtB, HtS, HtV⟩, HC⟩, ⟨HcB, HcV⟩, #HL, Hw, Hy⟩, Hscr⟩, Ho, ⟨%d0, %g0, %h0, Hx⟩, ⟨%d1, %g1, %h1, Hsx⟩, ⟨%d2, %g2, %h2, Hsw⟩⟩
  rw [before_0 m ρ c d0] at h0; rw [before_1 m ρ c d1] at h1; rw [before_2 m ρ c d2] at h2
  subst h0 h1 h2
  ihave Hscr := (scratch_cut (F := F) c) $$ Hscr
  icases Hscr with ⟨%fc, %fst, %fa, %fwf, %fw8, %fo, Hscr⟩
  unfold Dat.owesAt Pipeline.owesWithin
  icases Ho with ⟨%W, %hW, HO⟩
  rw [show (dats m ρ 0 c).owed t0_0.castSucc = O₀ c from rfl]
  unfold yPts wPts
  ihave Hy := (Entails.of_eq (y_cut c (m ((c : Thread nD τ).loc main_v1)))) $$ Hy
  iapply (body_run m K c W (sxOf m c) (swOf m c) fc fst fa fwf fw8 fo (m ((c : Thread nD τ).loc main_v1)) (fun _ => bodyPost m ρ c))
  isplitr; · iexact HR
  isplitl [HaB HaS HaV HtB HtS HtV HcB HcV]
  · unfold shareOf
    isplitl [HaB]; · iexact HaB
    isplitl [HaS]; · iexact HaS
    isplitl [HaV]; · iexact HaV
    isplitl [HtB]; · iexact HtB
    isplitl [HtS]; · iexact HtS
    isplitl [HtV]; · iexact HtV
    isplitl [HcB] <;> iassumption
  isplitr; · iexact HL
  isplitl [HC]; · iexact HC
  isplitl [Hx Hsx Hsw Hw]
  · unfold operands
    isplitl [Hx]; · iexact Hx
    isplitl [Hsx]; · iexact Hsx
    isplitl [Hsw] <;> iassumption
  isplitl [Hscr]; · iexact Hscr
  isplitl [Hy]; · iexact Hy
  isplitl [HO]; · iexact HO
  unfold bodyEnd operands
  iintro ⟨Hz, HC, ⟨Hx, Hsx, Hsw, Hw⟩, Hscr, Hy, ⟨%W', HO⟩⟩
  ihave Hscr := (scratch_join m c fc fwf fo) $$ Hscr
  ihave Hy := (Entails.of_eq (y_cut c (outC m (scaleOf (sxOf m c) (swOf m c)) c)).symm) $$ Hy
  unfold bodyPost Φ₁ Dat.owesAt Pipeline.owesWithin yPts wPts resultC
  rw [show (dats m ρ 0 c).owed t0_0.succ = 0 from rfl]
  isplitl [Hz HC Hw Hy Hscr]
  · isplitl [Hz]; · iexact Hz
    isplitl [HC]; · iexact HC
    isplitl [Hw]; · iexact Hw
    isplitl [Hy] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  iexists _; isplitr; · (ipureintro; rfl)
  iexact Hsw

set_option maxRecDepth 10000 in
/-- The launch's obligation for the body on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  exact sound_body m ρ c

/-! ## The launch -/

theorem share_eq (c : Dev nD) (w : Fin cfg0.W) : (dats m ρ 0 c).share w = fullShare := by unfold Dat.share; split <;> rfl

/-- What the launch leaves to the region beside its windows, dealt for the start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  iintro ⟨⟨Hw, Hy⟩, Hlev, Hcr, -, HG⟩
  ihave Hc := (creds (F := F) c) $$ Hcr
  imodintro
  unfold start wPts yPts
  isplitl
  · isplitl [HG]; · iexact HG
    isplitl [Hc]; · iexact Hc
    isplitl [Hlev]; · iexact Hlev
    isplitl [Hw] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

/-- What a device ends with beside its windows: the barrier's semaphore, the weights, the result. -/
def ends (c : Dev nD) : sProp 𝕄 := iprop(unscopedSems0 c ∗ wPts m c ∗ yPts c (resultC m c))

theorem phi1_exit (c : Dev nD) :
    (dats m ρ 0 c).Φ (Fin.last cfg0.N) ⊢ iprop(ends m c ∗ Pipeline.ownSems0 osem c ∗ Pipeline.scopedRest cfg0.spec c) := by
  rw [show (dats m ρ 0 c).Φ (Fin.last cfg0.N) = Φ₁ m c from rfl, ownSems0_eq]
  unfold Φ₁ ends
  rw [unscopedSems0_eq]
  iintro ⟨⟨HzB, HzS, HzV⟩, HC, Hw, Hy, Hr⟩
  isplitl [HzB Hw Hy]
  · isplitl [HzB]; · iexact HzB
    isplitl [Hw] <;> iassumption
  isplitl [HzS HzV HC]
  · isplitl [HzS]; · iexact HzS
    isplitl [HzV] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- What a device's end says of the final memory. -/
def ReadEnd (c : Dev nD) (s : MemSt nD τ sig (Elt F)) : Prop :=
  s.mem ((c : Thread nD τ).loc main_v1) = resultC m c ∧ s.mem ((c : Thread nD τ).loc main_arg1) = m ((c : Thread nD τ).loc main_arg1)
    ∧ ∀ sm : SemLoc sig, sm.isScoped .tc = false → s.sem ((c.tc : Thread nD τ), sm) = 0

theorem ends_read (c : Dev nD) (s' : Phys nD τ sig (Elt F)) :
    iprop(ends m c ∗ emp ∗ SI s') ⊢ |={Set.univ}=> (iprop(⌜ReadEnd m c s'.mem⌝ ∗ SI s') : sProp 𝕄) := by
  unfold ends wPts yPts
  iintro ⟨⟨Hu, Hw, Hy⟩, -, HSI⟩
  ihave %hw := (SI_pointsTo_agree (st := s') (ℓ := (c : Thread nD τ).loc main_arg1) (I := Finset.univ) (q := fullShare) (f := m ((c : Thread nD τ).loc main_arg1))) $$ [Hw HSI]
  · isplitl [HSI] <;> iassumption
  ihave %hy := (SI_pointsTo_agree (st := s') (ℓ := (c : Thread nD τ).loc main_v1) (I := Finset.univ) (q := fullShare) (f := resultC m c)) $$ [Hy HSI]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨funext fun i => hy i (Finset.mem_univ i), funext fun i => hw i (Finset.mem_univ i), hu⟩
  iexact HSI

/-! ## The run -/

/-- What the run leaves on every device: the result, the operands as they were. -/
def Ended (r : PUnit × MemSt nD τ sig (Elt F)) : Prop := ∀ c : Dev nD,
  r.2.mem ((c : Thread nD τ).loc main_v1) = resultC m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

set_option maxRecDepth 100000 in
/-- At any float values, from any memory with zero counters: every weakly fair execution of the eight devices terminates, with every
    device's result at `resultC`, its operands unchanged and every semaphore at zero. -/
theorem run_main : θ_run defs (onTc (τ := τ) (main (F := F))) (s₀ m ρ) (fun r => Ended m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m ρ) (hout := phi1_exit m ρ)
    (QY := ReadEnd m)
    (hY := ends_read m)
    (hQ := fun _ h hs => ⟨fun c => ⟨(h c).2.2.1, ((h c).1 (0 : Fin 3)).trans ((dats m ρ 0 c).arrAt_in (0 : Fin 3) rfl _), (h c).2.2.2.1,
        ((h c).1 (1 : Fin 3)).trans ((dats m ρ 0 c).arrAt_in (1 : Fin 3) rfl _), ((h c).1 (2 : Fin 3)).trans ((dats m ρ 0 c).arrAt_in (2 : Fin 3) rfl _)⟩,
      sem_eq_zero hs fun c => (h c).2.2.2.2⟩)

end Cert.Exchange

end
-- ==== Proof.Reference.lean ====
/-
# What the reference computes

The product of the whole arrays, times the product of the two scales: the reference's result, read at a row and a column.
-/
module

public import proofs.«01_k».proof.Proof.Gen.ReferenceIdeal.Run
public import Idealize.ShloMosaic.PureOps.Ideal.Laws
public import Idealize.ShloMosaic.Lib.StackMember
public import Idealize.ShloMosaic.Lib.ValueIdx

@[expose] public section

noncomputable section

namespace Cert.Exchange

open Cert.ReferenceIdeal Cert.ReferenceIdeal.Gen

open Idealize.ShloMosaic Idealize.ShloMosaic.ValueIdx
open Idealize.ShloMosaic.TcCoe
open Idealize.SL.Sem
open scoped BigOperators

/-- The reference's result of its four arguments. -/
def refC (x : FVec Ideal S4096x4096 .f32) (w : FVec Ideal S4096x8192 .f32) (sx sw : FVec Ideal S1 .f32) : FVec Ideal S4096x8192 .f32 :=
  mulf (Host.dotGeneral dot_S4096x4096_S4096x8192_S4096x8192_1_0_0_1_n_n none x w)
    (broadcastInDim S4096x8192 ![0, 1] bcast_S1x1_S4096x8192_0_1 (broadcastInDim S1x1 ![1] bcast_S1_S1x1_1 (mulf sx sw)))

/-- The one place of an array of one element. -/
theorem one_place (i j : S1.Idx) : i = j := by
  funext a
  fin_cases a
  exact Subsingleton.elim (α := Fin 1) _ _

/-- The reference's result at row `r` and column `n`: the sum of the products along the row and the column, scaled. -/
theorem refC_apply (x : FVec Ideal S4096x4096 .f32) (w : FVec Ideal S4096x8192 .f32) (sx sw : FVec Ideal S1 .f32) (u : S1.Idx) (r : Fin 4096) (n : Fin 8192) :
    refC x w sx sw (ix2 r n) = (∑ k : Fin 4096, x (ix2 r k) * w (ix2 k n)) * (sx u * sw u) := by
  have hdot : Host.dotGeneral dot_S4096x4096_S4096x8192_S4096x8192_1_0_0_1_n_n none x w (ix2 r n) = ∑ k : Fin 4096, x (ix2 r k) * w (ix2 k n) :=
    StackMember.dotGeneral_plain_apply none x w r n
  unfold refC
  refine congr (congrArg HMul.hMul hdot) ?_
  exact congrArg (fun u => sx u * sw u) (one_place _ u)

/-- The reference's run: its result is `refC` of its arguments, which end unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = refC (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Exchange

end
-- ==== Proof.Equation.lean ====
/-
# The kernel's result is the reference's

Over the extended reals a change of format changes nothing, so what device `c` gathers is its rows of the whole first argument, what it
casts is the second, and its result is its rows of the reference's.
-/
module

public import proofs.«01_k».proof.Proof.Launch
public import proofs.«01_k».proof.Proof.Reference
public import Idealize.ShloMosaic.Lib.MatmulPlain
public import Idealize.ShloMosaic.Lib.Layout

@[expose] public section

noncomputable section

namespace Cert.Exchange

open Cert.KernelIdeal Cert.KernelIdeal.Gen

open Idealize.ShloMosaic Idealize.ShloMosaic.ValueIdx
open Idealize.ShloMosaic.TcCoe
open scoped BigOperators

/-- A matrix of extended reals. -/
abbrev Mat (a b : ℕ) : Type := FVec Ideal ⟨2, ![a, b]⟩ .f32

variable (m : (ℓ : Loc nD τ sig) → Buf (Elt Ideal) ℓ)

/-- Over the extended reals the cast is the identity. -/
theorem q8_id (x : Elt Ideal .f32) : q8 (F := Ideal) x = x := rfl

/-- A row of device `c`'s block of the whole array. -/
def rowAt (c : Fin 8) (r : Fin 512) : Fin 4096 := ⟨512 * c.val + r.val, by have := c.isLt; have := r.isLt; omega⟩
/-- A column of panel `p`. -/
def colAt (p : Fin 4) (n : Fin 2048) : Fin 8192 := ⟨2048 * p.val + n.val, by have := p.isLt; have := n.isLt; omega⟩

/-- The staging window holds the device's shard. -/
theorem xstg_eq (c : Dev nD) : xstg m c = m ((c : Thread nD τ).loc main_arg0) := by
  funext i
  refine congrArg (m ((c : Thread nD τ).loc main_arg0)) (funext fun a => ?_)
  fin_cases a
  · exact Fin.ext (by show 0 + 1 * (i 0).val = (i 0).val; omega)
  · exact Fin.ext (by show 0 + 1 * (i 1).val = (i 1).val; omega)

/-- The gathered rows of device `c` are its rows of the first argument, where every device holds its columns of it. -/
theorem gathered (c : Dev nD) (x : Mat 4096 4096)
    (hx : ∀ d : Dev nD, m ((d : Thread nD τ).loc main_arg0) = Layout.block ⟨2, ![4096, 512]⟩ ⟨2, ![4096, 4096]⟩ 1 8 d (x : Mat 4096 4096)) (r : Fin 512) (k : Fin 4096) :
    aC m c (ix2 r k) = x (ix2 (rowAt c r) k) := by
  show q8 (xstg m _ _) = _
  rw [q8_id, xstg_eq, hx]
  refine congrArg x (funext fun a => ?_)
  fin_cases a
  · rfl
  · exact Fin.ext (by show k.val / 512 * 512 + k.val % 512 = k.val; omega)

/-- A panel of device `c`'s result at row `r` and column `n`: the sum of the products along the row and the column, scaled. -/
theorem outP_apply (s : Ideal .f32) (c : Dev nD) (x : Mat 4096 4096) (w : Mat 4096 8192)
    (hx : ∀ d : Dev nD, m ((d : Thread nD τ).loc main_arg0) = Layout.block ⟨2, ![4096, 512]⟩ ⟨2, ![4096, 4096]⟩ 1 8 d (x : Mat 4096 4096))
    (hw : m ((c : Thread nD τ).loc main_arg1) = w) (p : Fin 4) (r : Fin 512) (n : Fin 2048) :
    outP m s c p (ix2 r n) = (∑ k : Fin 4096, x (ix2 (rowAt c r) k) * w (ix2 k (colAt p n))) * s := by
  have hdot : matmul (φ₁ := .fp8e5m2) (φ₂ := .fp8e5m2) dot_S512x4096_S4096x2048_S512x2048_1_0_0_1_n_n none (aC m c) (w8C m c p) (constant S512x2048 .f32 0x00000000#32) (ix2 r n)
      = ∑ k : Fin 4096, x (ix2 (rowAt c r) k) * w (ix2 k (colAt p n)) := by
    refine (Ideal.matmul_plain_apply (φ₁ := .fp8e5m2) (φ₂ := .fp8e5m2) none (aC m c) (w8C m c p) (constant S512x2048 .f32 0x00000000#32) r n).trans ?_
    rw [show (constant (F := Ideal) S512x2048 .f32 0x00000000#32) (ix2 r n) = 0 from Ideal.ofBits_zero_f32, zero_add]
    refine Finset.sum_congr rfl fun k _ => ?_
    refine congrArg₂ (fun a b : Ideal .f32 => a * b) (gathered m c x hx r k) ?_
    subst hw
    show q8 (F := Ideal) (m ((c : Thread nD τ).loc main_arg1) _) = _
    rw [q8_id]
    refine congrArg (m ((c : Thread nD τ).loc main_arg1)) (funext fun a => ?_)
    fin_cases a <;> rfl
  unfold outP k0_pay50
  exact congrArg (· * s) hdot

/-- The product of the scales as the device reads them. -/
theorem scale_eq (c : Dev nD) (sx sw : FVec Ideal S1 .f32) (hsx : m ((c : Thread nD τ).loc main_arg2) = sx)
    (hsw : m ((c : Thread nD τ).loc main_arg3) = sw) (u : S1.Idx) : scaleOf (F := Ideal) (sxOf m c) (swOf m c) = sx u * sw u := by
  subst hsx hsw
  exact congrArg₂ (fun a b : Ideal .f32 => a * b) (congrArg (m ((c : Thread nD τ).loc main_arg2)) (one_place _ u)) (congrArg (m ((c : Thread nD τ).loc main_arg3)) (one_place _ u))

/-- Device `c`'s result is its block of rows of the reference's, whose arguments it holds its parts of. -/
theorem result_eq (c : Dev nD) (x : Mat 4096 4096) (w : Mat 4096 8192) (sx sw : FVec Ideal S1 .f32)
    (hx : ∀ d : Dev nD, m ((d : Thread nD τ).loc main_arg0) = Layout.block ⟨2, ![4096, 512]⟩ ⟨2, ![4096, 4096]⟩ 1 8 d (x : Mat 4096 4096))
    (hw : m ((c : Thread nD τ).loc main_arg1) = w) (hsx : m ((c : Thread nD τ).loc main_arg2) = sx) (hsw : m ((c : Thread nD τ).loc main_arg3) = sw) :
    resultC m c = Layout.block ⟨2, ![512, 8192]⟩ ⟨2, ![4096, 8192]⟩ 0 8 c (refC x w sx sw) := by
  funext i
  have hi : (i 1).val < 8192 := (i 1).isLt
  let u : S1.Idx := Shape.Idx.first (numel1_S1.symm ▸ Nat.one_pos)
  let p : Fin 4 := ⟨(i 1).val / 2048, by omega⟩
  let r : Fin 512 := ⟨(i 0).val, (i 0).isLt⟩
  let n : Fin 2048 := ⟨(i 1).val % 2048, Nat.mod_lt _ (by decide)⟩
  have hk : resultC m c i = outP m (scaleOf (sxOf m c) (swOf m c)) c p (ix2 r n) :=
    congrArg (outP m (scaleOf (sxOf m c) (swOf m c)) c p) (funext fun a => by fin_cases a <;> rfl)
  have hr : Layout.block ⟨2, ![512, 8192]⟩ ⟨2, ![4096, 8192]⟩ 0 8 c (refC x w sx sw) (by decide) i = refC x w sx sw (ix2 (rowAt c r) (colAt p n)) :=
    congrArg (refC x w sx sw) (funext fun a => by
      fin_cases a
      · exact Fin.ext (by show c.val * 512 + (i 0).val = 512 * c.val + (i 0).val; omega)
      · exact Fin.ext (by show (i 1).val = 2048 * ((i 1).val / 2048) + (i 1).val % 2048; omega))
  rw [hk, hr, outP_apply m _ c x w hx hw p r n, refC_apply x w sx sw u, scale_eq m c sx sw hsx hsw u]

end Cert.Exchange

end
-- ==== Proof.Same.lean ====
/-
# The two printings of the kernel

No operation of the kernel is rewritten when it is read over exact numbers, so its two printings are one text: their body tables are equal.
-/
module

public import proofs.«01_k».proof.Defs
public import Idealize.ShloMosaic.Lib.Tactic

@[expose] public section

noncomputable section

namespace Cert.Exchange

open Idealize.ShloMosaic Idealize.SL.Sem

variable {F : FTy → Type} [FloatOps F] [Cert.Kernel.Facts] [Cert.KernelIdeal.Facts]

/-- The two printings' body tables are equal. -/
theorem same_defs : Cert.Kernel.defs (F := F) = Cert.KernelIdeal.defs (F := F) := by sl_kernel_rfl

/-- So are their entry functions. -/
theorem same_main : Cert.Kernel.main (F := F) = Cert.KernelIdeal.main (F := F) := by sl_kernel_rfl

end Cert.Exchange

end
-- ==== Proof.lean ====
/-
# The claims, proved

The kernel's run (`Cert.Exchange.run_main`, at any float values) is the frame of the kernel and of its idealization and gives the latter's result;
the reference's run gives the reference's; `Cert.Exchange.result_eq` says that every device's result is its block of the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Equation
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs, its operands unchanged, every semaphore at zero at the end. -/
theorem frame_kernel : Cert.quiescent_Kernel := by
  intro m ρ _
  rw [Cert.Exchange.same_defs, Cert.Exchange.same_main]
  exact (θ_run Cert.KernelIdeal.defs _ _).mono (fun _ h => ⟨fun c => (h.1 c).2, h.2⟩) (Cert.Exchange.run_main (F := Bits) m ρ)

/-- So does its idealization. -/
theorem frame_kernelIdeal : Cert.quiescent_KernelIdeal := fun m ρ _ =>
  (θ_run Cert.KernelIdeal.defs _ _).mono (fun _ h => ⟨fun c => (h.1 c).2, h.2⟩) (Cert.Exchange.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.Exchange.reference_run m ρ)

/-- The kernel's devices end with their blocks of the reference's result. -/
theorem algebraic : Cert.algebraic_KernelIdeal_ReferenceIdeal := fun m ρ m' ρ' _ hm =>
  ⟨Cert.Exchange.refC (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).1.trans (Cert.Exchange.result_eq m c _ _ _ _ (fun d => (hm d).1) (hm c).2.1 (hm c).2.2.1 (hm c).2.2.2),
      (h.1 c).2⟩) (Cert.Exchange.run_main (F := Ideal) m ρ),
    (θ_run Cert.ReferenceIdeal.defs _ _).mono (fun _ h => h 0) (Cert.Exchange.reference_run m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
